-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_drawn [hPre_edges_drawn : Cert.Pre_edges_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_edges_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_drawn [hPre_edges_drawn : Cert.Pre_edges_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_edges_drawn [hKernelIdeal : Cert.KernelIdeal.Facts] [hPre_edges_drawn : Cert.Pre_edges_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_edges_drawn [hReferenceIdeal : Cert.ReferenceIdeal.Facts] [hPre_edges_drawn : Cert.Pre_edges_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_edges_drawn [hKernelIdeal : Cert.KernelIdeal.Facts] [hReferenceIdeal : Cert.ReferenceIdeal.Facts] [hPre_edges_drawn : Cert.Pre_edges_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_edges_drawn : Cert.Pre_edges_drawn.Facts),
    quiescent_Kernel (hKernel := hKernel)
    ∧ quiescent_KernelIdeal (hKernelIdeal := hKernelIdeal)
    ∧ quiescent_KernelIdeal_pre_edges_drawn (hKernelIdeal := hKernelIdeal) (hPre_edges_drawn := hPre_edges_drawn)
    ∧ quiescent_ReferenceIdeal (hReferenceIdeal := hReferenceIdeal)
    ∧ quiescent_ReferenceIdeal_pre_edges_drawn (hReferenceIdeal := hReferenceIdeal) (hPre_edges_drawn := hPre_edges_drawn)
    ∧ preserves_Kernel_KernelIdeal
    ∧ algebraic_KernelIdeal_ReferenceIdeal_pre_edges_drawn (hKernelIdeal := hKernelIdeal) (hReferenceIdeal := hReferenceIdeal) (hPre_edges_drawn := hPre_edges_drawn)
-- ==== Pre_edges_drawn.lean ====
abbrev S1024x50x19 : Shape := ⟨3, ![1024, 50, 19]⟩
abbrev S1024x50x128 : Shape := ⟨3, ![1024, 50, 128]⟩
abbrev S128x128 : Shape := ⟨2, ![128, 128]⟩
abbrev S128 : Shape := ⟨1, ![128]⟩
abbrev S7x128 : Shape := ⟨2, ![7, 128]⟩
abbrev S20x128 : Shape := ⟨2, ![20, 128]⟩
abbrev S2x128 : Shape := ⟨2, ![2, 128]⟩
abbrev S919x128 : Shape := ⟨2, ![919, 128]⟩
abbrev S500x128 : Shape := ⟨2, ![500, 128]⟩
abbrev S350x128 : Shape := ⟨2, ![350, 128]⟩
abbrev S8x128 : Shape := ⟨2, ![8, 128]⟩
abbrev S16x128 : Shape := ⟨2, ![16, 128]⟩
abbrev S32x128 : Shape := ⟨2, ![32, 128]⟩
abbrev S_ : Shape := ⟨0, ![]⟩

class Facts : Prop where
  bcast_S_S1024x50x19 : S_.BroadcastsInDim S1024x50x19 (![] : Fin 0 → Fin S1024x50x19.rank)

variable [Facts]

def fn {F : FTy → Type} [FloatOps F] (main_arg0 : IVec S1024x50x19 32) (main_arg1 : FVec F S1024x50x128 .f32) (main_arg2 : FVec F S1024x50x128 .f32) (main_arg3 : FVec F S128x128 .f32) (main_arg4 : FVec F S128 .f32) (main_arg5 : FVec F S128x128 .f32) (main_arg6 : FVec F S128 .f32) (main_arg7 : FVec F S7x128 .f32) (main_arg8 : FVec F S128 .f32) (main_arg9 : FVec F S20x128 .f32) (main_arg10 : FVec F S128 .f32) (main_arg11 : FVec F S2x128 .f32) (main_arg12 : FVec F S128 .f32) (main_arg13 : FVec F S919x128 .f32) (main_arg14 : FVec F S500x128 .f32) (main_arg15 : FVec F S350x128 .f32) (main_arg16 : FVec F S8x128 .f32) (main_arg17 : FVec F S16x128 .f32) (main_arg18 : FVec F S32x128 .f32) (main_arg19 : FVec F S128x128 .f32) (main_arg20 : FVec F S20x128 .f32) : IVec S1024x50x19 1 :=
  let main_c : IVec S_ 32 := constantI S_ 32 0#32
  let main_v0 : IVec S1024x50x19 32 := broadcastInDim S1024x50x19 ![] bcast_S_S1024x50x19 main_c
  let main_v1 : IVec S1024x50x19 1 := cmpi .sge main_arg0 main_v0
  let main_c_0 : IVec S_ 32 := constantI S_ 32 8#32
  let main_v2 : IVec S1024x50x19 32 := broadcastInDim S1024x50x19 ![] bcast_S_S1024x50x19 main_c_0
  let main_v3 : IVec S1024x50x19 1 := cmpi .slt main_arg0 main_v2
  let main_v4 : IVec S1024x50x19 1 := andi main_v1 main_v3
  main_v4
-- ==== Kernel.lean ====
abbrev S1024x50x19 : Shape := ⟨3, ![1024, 50, 19]⟩
abbrev S1024x50x128 : Shape := ⟨3, ![1024, 50, 128]⟩
abbrev S128x128 : Shape := ⟨2, ![128, 128]⟩
abbrev S128 : Shape := ⟨1, ![128]⟩
abbrev S7x128 : Shape := ⟨2, ![7, 128]⟩
abbrev S20x128 : Shape := ⟨2, ![20, 128]⟩
abbrev S2x128 : Shape := ⟨2, ![2, 128]⟩
abbrev S919x128 : Shape := ⟨2, ![919, 128]⟩
abbrev S500x128 : Shape := ⟨2, ![500, 128]⟩
abbrev S350x128 : Shape := ⟨2, ![350, 128]⟩
abbrev S8x128 : Shape := ⟨2, ![8, 128]⟩
abbrev S16x128 : Shape := ⟨2, ![16, 128]⟩
abbrev S32x128 : Shape := ⟨2, ![32, 128]⟩
abbrev S8x18 : Shape := ⟨2, ![8, 18]⟩
abbrev S152x1024 : Shape := ⟨2, ![152, 1024]⟩
abbrev S1024 : Shape := ⟨1, ![1024]⟩
abbrev S1x1024 : Shape := ⟨2, ![1, 1024]⟩
abbrev S8x2 : Shape := ⟨2, ![8, 2]⟩
abbrev S152x7 : Shape := ⟨2, ![152, 7]⟩
abbrev S50x1024x128 : Shape := ⟨3, ![50, 1024, 128]⟩
abbrev S19x50x1024 : Shape := ⟨3, ![19, 50, 1024]⟩
abbrev S8 : Shape := ⟨1, ![8]⟩
abbrev S_ : Shape := ⟨0, ![]⟩
abbrev S8x1 : Shape := ⟨2, ![8, 1]⟩
abbrev S8x20 : Shape := ⟨2, ![8, 20]⟩
abbrev S19x8x8x128 : Shape := ⟨4, ![19, 8, 8, 128]⟩
abbrev S1x128 : Shape := ⟨2, ![1, 128]⟩
abbrev S19x8x1024 : Shape := ⟨3, ![19, 8, 1024]⟩
abbrev S8x1024x128 : Shape := ⟨3, ![8, 1024, 128]⟩
abbrev S48x128 : Shape := ⟨2, ![48, 128]⟩
abbrev S152x128 : Shape := ⟨2, ![152, 128]⟩
abbrev S1024x1024 : Shape := ⟨2, ![1024, 1024]⟩
abbrev S8192x128 : Shape := ⟨2, ![8192, 128]⟩
abbrev S1024x128 : Shape := ⟨2, ![1024, 128]⟩
abbrev S1x1024x128 : Shape := ⟨3, ![1, 1024, 128]⟩

abbrev nBuf : Space → Nat
  | .hbm => 53
  | .vmem => 32
  | .smem => 0
  | _ => 0

abbrev bufTy : (tb : Table) → Fin (tcTables nBuf tb) → BufTy
  | .hbm, ⟨0, _⟩ => ⟨S1024x50x19, .i32⟩
  | .hbm, ⟨1, _⟩ => ⟨S1024x50x128, .f32⟩
  | .hbm, ⟨2, _⟩ => ⟨S1024x50x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S7x128, .f32⟩
  | .hbm, ⟨8, _⟩ => ⟨S128, .f32⟩
  | .hbm, ⟨9, _⟩ => ⟨S20x128, .f32⟩
  | .hbm, ⟨10, _⟩ => ⟨S128, .f32⟩
  | .hbm, ⟨11, _⟩ => ⟨S2x128, .f32⟩
  | .hbm, ⟨12, _⟩ => ⟨S128, .f32⟩
  | .hbm, ⟨13, _⟩ => ⟨S919x128, .f32⟩
  | .hbm, ⟨14, _⟩ => ⟨S500x128, .f32⟩
  | .hbm, ⟨15, _⟩ => ⟨S350x128, .f32⟩
  | .hbm, ⟨16, _⟩ => ⟨S8x128, .f32⟩
  | .hbm, ⟨17, _⟩ => ⟨S16x128, .f32⟩
  | .hbm, ⟨18, _⟩ => ⟨S32x128, .f32⟩
  | .hbm, ⟨19, _⟩ => ⟨S128x128, .f32⟩
  | .hbm, ⟨20, _⟩ => ⟨S20x128, .f32⟩
  | .hbm, ⟨21, _⟩ => ⟨S8x18, .f32⟩
  | .hbm, ⟨22, _⟩ => ⟨S152x1024, .bf16⟩
  | .hbm, ⟨23, _⟩ => ⟨S1024, .f32⟩
  | .hbm, ⟨24, _⟩ => ⟨S1x1024, .f32⟩
  | .hbm, ⟨25, _⟩ => ⟨S8x2, .f32⟩
  | .hbm, ⟨26, _⟩ => ⟨S152x7, .f32⟩
  | .hbm, ⟨27, _⟩ => ⟨S50x1024x128, .f32⟩
  | .hbm, ⟨28, _⟩ => ⟨S50x1024x128, .f32⟩
  | .hbm, ⟨29, _⟩ => ⟨S19x50x1024, .i32⟩
  | .hbm, ⟨30, _⟩ => ⟨S8, .i32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8x1, .f32⟩
  | .hbm, ⟨36, _⟩ => ⟨S8, .f32⟩
  | .hbm, ⟨37, _⟩ => ⟨S8x1, .f32⟩
  | .hbm, ⟨38, _⟩ => ⟨S8x1, .f32⟩
  | .hbm, ⟨39, _⟩ => ⟨S8x1, .f32⟩
  | .hbm, ⟨40, _⟩ => ⟨S8x20, .f32⟩
  | .hbm, ⟨41, _⟩ => ⟨S19x8x8x128, .i32⟩
  | .hbm, ⟨42, _⟩ => ⟨S19x8x8x128, .i32⟩
  | .hbm, ⟨43, _⟩ => ⟨S19x8x8x128, .i1⟩
  | .hbm, ⟨44, _⟩ => ⟨S19x8x8x128, .f32⟩
  | .hbm, ⟨45, _⟩ => ⟨S152x1024, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S50x1024x128, .f32⟩
  | .hbm, ⟨52, _⟩ => ⟨S1024x50x128, .f32⟩
  | .local _ .vmem, ⟨0, _⟩ => ⟨S19x8x1024, .i32⟩
  | .local _ .vmem, ⟨1, _⟩ => ⟨S19x8x1024, .i32⟩
  | .local _ .vmem, ⟨2, _⟩ => ⟨S8x1024x128, .f32⟩
  | .local _ .vmem, ⟨3, _⟩ => ⟨S8x1024x128, .f32⟩
  | .local _ .vmem, ⟨4, _⟩ => ⟨S8x1024x128, .f32⟩
  | .local _ .vmem, ⟨5, _⟩ => ⟨S8x1024x128, .f32⟩
  | .local _ .vmem, ⟨6, _⟩ => ⟨S128x128, .f32⟩
  | .local _ .vmem, ⟨7, _⟩ => ⟨S128x128, .f32⟩
  | .local _ .vmem, ⟨8, _⟩ => ⟨S7x128, .f32⟩
  | .local _ .vmem, ⟨9, _⟩ => ⟨S152x1024, .bf16⟩
  | .local _ .vmem, ⟨10, _⟩ => ⟨S1x1024, .f32⟩
  | .local _ .vmem, ⟨11, _⟩ => ⟨S8x2, .f32⟩
  | .local _ .vmem, ⟨12, _⟩ => ⟨S8x20, .f32⟩
  | .local _ .vmem, ⟨13, _⟩ => ⟨S152x7, .f32⟩
  | .local _ .vmem, ⟨14, _⟩ => ⟨S152x1024, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S20x128, .f32⟩
  | .local _ .vmem, ⟨24, _⟩ => ⟨S2x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S8x1024x128, .f32⟩
  | .local _ .vmem, ⟨31, _⟩ => ⟨S8x1024x128, .f32⟩
  | _, _ => ⟨S1024x50x19, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_cst_0 : Ref sig .tc := ⟨.hbm, 22, rfl⟩
abbrev main_cst_1 : Ref sig .tc := ⟨.hbm, 23, rfl⟩
abbrev main_v0 : Ref sig .tc := ⟨.hbm, 24, rfl⟩
abbrev main_cst_2 : Ref sig .tc := ⟨.hbm, 25, rfl⟩
abbrev main_cst_3 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_4 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg27_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem27_1 : DmaSem sig := 31

abbrev nD : Nat := 1
abbrev τ : Topo := Topo.v7x

variable {F : FTy → Type} [FloatOps F]

abbrev grid0 : Pipeline.Grid := ⟨2, ![7, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S19x8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S7x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S152x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S152x7 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S152x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S20x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S2x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S8x1024x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== ReferenceIdeal.lean ====
abbrev S1024x50x19 : Shape := ⟨3, ![1024, 50, 19]⟩
abbrev S1024x50x128 : Shape := ⟨3, ![1024, 50, 128]⟩
abbrev S128x128 : Shape := ⟨2, ![128, 128]⟩
abbrev S128 : Shape := ⟨1, ![128]⟩
abbrev S7x128 : Shape := ⟨2, ![7, 128]⟩
abbrev S20x128 : Shape := ⟨2, ![20, 128]⟩
abbrev S2x128 : Shape := ⟨2, ![2, 128]⟩
abbrev S919x128 : Shape := ⟨2, ![919, 128]⟩
abbrev S500x128 : Shape := ⟨2, ![500, 128]⟩
abbrev S350x128 : Shape := ⟨2, ![350, 128]⟩
abbrev S8x128 : Shape := ⟨2, ![8, 128]⟩
abbrev S16x128 : Shape := ⟨2, ![16, 128]⟩
abbrev S32x128 : Shape := ⟨2, ![32, 128]⟩
abbrev S2 : Shape := ⟨1, ![2]⟩
abbrev S1024x50x1 : Shape := ⟨3, ![1024, 50, 1]⟩
abbrev S1024x50 : Shape := ⟨2, ![1024, 50]⟩
abbrev S_ : Shape := ⟨0, ![]⟩
abbrev S1x1x128 : Shape := ⟨3, ![1, 1, 128]⟩
abbrev S1024x50x7 : Shape := ⟨3, ![1024, 50, 7]⟩
abbrev S1x1x17 : Shape := ⟨3, ![1, 1, 17]⟩
abbrev S1024x50x17 : Shape := ⟨3, ![1024, 50, 17]⟩
abbrev S1024x50x20 : Shape := ⟨3, ![1024, 50, 20]⟩
abbrev S1x1x2 : Shape := ⟨3, ![1, 1, 2]⟩
abbrev S1024x50x2 : Shape := ⟨3, ![1024, 50, 2]⟩

abbrev nBuf : Space → Nat
  | .hbm => 219
  | .vmem => 0
  | .smem => 0
  | _ => 0

abbrev hbmTy0_0 (i : Nat) : BufTy := match i % 128 with
  | 0 => ⟨S1024x50x19, .i32⟩
  | 1 => ⟨S1024x50x128, .f32⟩
  | 2 => ⟨S1024x50x128, .f32⟩
  | 3 => ⟨S128x128, .f32⟩
  | 4 => ⟨S128, .f32⟩
  | 5 => ⟨S128x128, .f32⟩
  | 6 => ⟨S128, .f32⟩
  | 7 => ⟨S7x128, .f32⟩
  | 8 => ⟨S128, .f32⟩
  | 9 => ⟨S20x128, .f32⟩
  | 10 => ⟨S128, .f32⟩
  | 11 => ⟨S2x128, .f32⟩
  | 12 => ⟨S128, .f32⟩
  | 13 => ⟨S919x128, .f32⟩
  | 14 => ⟨S500x128, .f32⟩
  | 15 => ⟨S350x128, .f32⟩
  | 16 => ⟨S8x128, .f32⟩
  | 17 => ⟨S16x128, .f32⟩
  | 18 => ⟨S32x128, .f32⟩
  | 19 => ⟨S128x128, .f32⟩
  | 20 => ⟨S20x128, .f32⟩
  | 21 => ⟨S2, .i32⟩
  | 22 => ⟨S1024x50x1, .i32⟩
  | 23 => ⟨S1024x50, .i32⟩
  | 24 => ⟨S_, .i32⟩
  | 25 => ⟨S1024x50, .i32⟩
  | 26 => ⟨S1024x50, .i1⟩
  | 27 => ⟨S1024x50x1, .i1⟩
  | 28 => ⟨S1024x50x1, .i32⟩
  | 29 => ⟨S1024x50, .i32⟩
  | 30 => ⟨S_, .i32⟩
  | 31 => ⟨S1024x50, .i32⟩
  | 32 => ⟨S1024x50, .i1⟩
  | 33 => ⟨S1024x50x1, .i1⟩
  | 34 => ⟨S_, .f32⟩
  | 35 => ⟨S_, .f32⟩
  | 36 => ⟨S1024x50x128, .i1⟩
  | 37 => ⟨S1024x50x128, .f32⟩
  | 38 => ⟨S1024x50x128, .f32⟩
  | 39 => ⟨S1024x50x128, .f32⟩
  | 40 => ⟨S1x1x128, .f32⟩
  | 41 => ⟨S1024x50x128, .f32⟩
  | 42 => ⟨S1024x50x128, .f32⟩
  | 43 => ⟨S_, .f32⟩
  | 44 => ⟨S_, .f32⟩
  | 45 => ⟨S1024x50x128, .i1⟩
  | 46 => ⟨S1024x50x128, .f32⟩
  | 47 => ⟨S1024x50x128, .f32⟩
  | 48 => ⟨S1024x50x128, .f32⟩
  | 49 => ⟨S1x1x128, .f32⟩
  | 50 => ⟨S1024x50x128, .f32⟩
  | 51 => ⟨S1024x50x128, .f32⟩
  | 52 => ⟨S1024x50x1, .i32⟩
  | 53 => ⟨S1024x50, .i32⟩
  | 54 => ⟨S_, .i32⟩
  | 55 => ⟨S1024x50, .i32⟩
  | 56 => ⟨S1024x50, .i1⟩
  | 57 => ⟨S_, .i32⟩
  | 58 => ⟨S1024x50, .i32⟩
  | 59 => ⟨S1024x50, .i32⟩
  | 60 => ⟨S1024x50, .i32⟩
  | 61 => ⟨S1024x50x1, .i32⟩
  | 62 => ⟨S1024x50x128, .f32⟩
  | 63 => ⟨S1024x50x1, .i32⟩
  | 64 => ⟨S1024x50, .i32⟩
  | 65 => ⟨S_, .i32⟩
  | 66 => ⟨S1024x50, .i32⟩
  | 67 => ⟨S1024x50, .i1⟩
  | 68 => ⟨S_, .i32⟩
  | 69 => ⟨S1024x50, .i32⟩
  | 70 => ⟨S1024x50, .i32⟩
  | 71 => ⟨S1024x50, .i32⟩
  | 72 => ⟨S1024x50x1, .i32⟩
  | 73 => ⟨S1024x50x128, .f32⟩
  | 74 => ⟨S1024x50x1, .i32⟩
  | 75 => ⟨S1024x50, .i32⟩
  | 76 => ⟨S_, .i32⟩
  | 77 => ⟨S1024x50, .i32⟩
  | 78 => ⟨S1024x50, .i1⟩
  | 79 => ⟨S_, .i32⟩
  | 80 => ⟨S1024x50, .i32⟩
  | 81 => ⟨S1024x50, .i32⟩
  | 82 => ⟨S1024x50, .i32⟩
  | 83 => ⟨S1024x50x1, .i32⟩
  | 84 => ⟨S1024x50x128, .f32⟩
  | 85 => ⟨S1024x50x1, .i32⟩
  | 86 => ⟨S1024x50, .i32⟩
  | 87 => ⟨S_, .i32⟩
  | 88 => ⟨S1024x50, .i32⟩
  | 89 => ⟨S1024x50, .i1⟩
  | 90 => ⟨S_, .i32⟩
  | 91 => ⟨S1024x50, .i32⟩
  | 92 => ⟨S1024x50, .i32⟩
  | 93 => ⟨S1024x50, .i32⟩
  | 94 => ⟨S1024x50x1, .i32⟩
  | 95 => ⟨S1024x50x128, .f32⟩
  | 96 => ⟨S1024x50x1, .i32⟩
  | 97 => ⟨S1024x50, .i32⟩
  | 98 => ⟨S_, .i32⟩
  | 99 => ⟨S1024x50, .i32⟩
  | 100 => ⟨S1024x50, .i1⟩
  | 101 => ⟨S_, .i32⟩
  | 102 => ⟨S1024x50, .i32⟩
  | 103 => ⟨S1024x50, .i32⟩
  | 104 => ⟨S1024x50, .i32⟩
  | 105 => ⟨S1024x50x1, .i32⟩
  | 106 => ⟨S1024x50x128, .f32⟩
  | 107 => ⟨S1024x50x1, .i32⟩
  | 108 => ⟨S1024x50, .i32⟩
  | 109 => ⟨S_, .i32⟩
  | 110 => ⟨S1024x50, .i32⟩
  | 111 => ⟨S1024x50, .i1⟩
  | 112 => ⟨S_, .i32⟩
  | 113 => ⟨S1024x50, .i32⟩
  | 114 => ⟨S1024x50, .i32⟩
  | 115 => ⟨S1024x50, .i32⟩
  | 116 => ⟨S1024x50x1, .i32⟩
  | 117 => ⟨S1024x50x128, .f32⟩
  | 118 => ⟨S1024x50x1, .i32⟩
  | 119 => ⟨S1024x50, .i32⟩
  | 120 => ⟨S_, .i32⟩
  | 121 => ⟨S1024x50, .i32⟩
  | 122 => ⟨S1024x50, .i1⟩
  | 123 => ⟨S_, .i32⟩
  | 124 => ⟨S1024x50, .i32⟩
  | 125 => ⟨S1024x50, .i32⟩
  | 126 => ⟨S1024x50, .i32⟩
  | 127 => ⟨S1024x50x1, .i32⟩
  | _ => ⟨S1024x50x19, .i32⟩

abbrev hbmTy0_1 (i : Nat) : BufTy := match i % 128 with
  | 0 => ⟨S1024x50x128, .f32⟩
  | 1 => ⟨S1024x50x7, .i32⟩
  | 2 => ⟨S1024x50x7, .f32⟩
  | 3 => ⟨S1024x50x128, .f32⟩
  | 4 => ⟨S1x1x128, .f32⟩
  | 5 => ⟨S1024x50x128, .f32⟩
  | 6 => ⟨S1024x50x128, .f32⟩
  | 7 => ⟨S1024x50x1, .i32⟩
  | 8 => ⟨S1024x50, .i32⟩
  | 9 => ⟨S1024x50, .f32⟩
  | 10 => ⟨S_, .f32⟩
  | 11 => ⟨S1024x50, .f32⟩
  | 12 => ⟨S1024x50, .f32⟩
  | 13 => ⟨S1024x50x1, .f32⟩
  | 14 => ⟨S1024x50, .f32⟩
  | 15 => ⟨S1024x50x1, .f32⟩
  | 16 => ⟨S1024x50, .i32⟩
  | 17 => ⟨S1024x50, .f32⟩
  | 18 => ⟨S1024x50x1, .f32⟩
  | 19 => ⟨S_, .i32⟩
  | 20 => ⟨S1024x50, .i32⟩
  | 21 => ⟨S1024x50, .i32⟩
  | 22 => ⟨S1024x50, .f32⟩
  | 23 => ⟨S_, .f32⟩
  | 24 => ⟨S1024x50, .f32⟩
  | 25 => ⟨S1024x50, .f32⟩
  | 26 => ⟨S1024x50, .f32⟩
  | 27 => ⟨S_, .i32⟩
  | 28 => ⟨S1024x50, .i32⟩
  | 29 => ⟨S1024x50, .i1⟩
  | 30 => ⟨S_, .i32⟩
  | 31 => ⟨S_, .f32⟩
  | 32 => ⟨S1024x50, .f32⟩
  | 33 => ⟨S1024x50, .f32⟩
  | 34 => ⟨S1024x50x1, .f32⟩
  | 35 => ⟨S1x1x17, .f32⟩
  | 36 => ⟨S1024x50x1, .f32⟩
  | 37 => ⟨S1024x50x17, .f32⟩
  | 38 => ⟨S1024x50x17, .f32⟩
  | 39 => ⟨S1024x50x17, .i1⟩
  | 40 => ⟨S1024x50x17, .f32⟩
  | 41 => ⟨S1024x50x1, .f32⟩
  | 42 => ⟨S1024x50x1, .f32⟩
  | 43 => ⟨S1024x50x20, .f32⟩
  | 44 => ⟨S1024x50x128, .f32⟩
  | 45 => ⟨S1x1x128, .f32⟩
  | 46 => ⟨S1024x50x128, .f32⟩
  | 47 => ⟨S1024x50x128, .f32⟩
  | 48 => ⟨S1024x50x1, .i32⟩
  | 49 => ⟨S1024x50, .i32⟩
  | 50 => ⟨S_, .i32⟩
  | 51 => ⟨S1024x50, .i32⟩
  | 52 => ⟨S1024x50, .i1⟩
  | 53 => ⟨S_, .i32⟩
  | 54 => ⟨S1024x50, .i32⟩
  | 55 => ⟨S1024x50, .i32⟩
  | 56 => ⟨S1024x50, .i32⟩
  | 57 => ⟨S1024x50x1, .i32⟩
  | 58 => ⟨S1024x50x128, .f32⟩
  | 59 => ⟨S1024x50x1, .i32⟩
  | 60 => ⟨S1024x50, .i32⟩
  | 61 => ⟨S1024x50x1, .i32⟩
  | 62 => ⟨S1x1x2, .i32⟩
  | 63 => ⟨S1024x50x2, .i32⟩
  | 64 => ⟨S1024x50x2, .i32⟩
  | 65 => ⟨S1024x50x2, .i32⟩
  | 66 => ⟨S_, .i32⟩
  | 67 => ⟨S1024x50x2, .i32⟩
  | 68 => ⟨S1024x50x2, .i1⟩
  | 69 => ⟨S1024x50x2, .f32⟩
  | 70 => ⟨S1024x50x128, .f32⟩
  | 71 => ⟨S1x1x128, .f32⟩
  | 72 => ⟨S1024x50x128, .f32⟩
  | 73 => ⟨S1024x50x128, .f32⟩
  | 74 => ⟨S1024x50x128, .f32⟩
  | 75 => ⟨S1024x50x128, .f32⟩
  | 76 => ⟨S1024x50x128, .f32⟩
  | 77 => ⟨S1024x50x128, .f32⟩
  | 78 => ⟨S1024x50x128, .f32⟩
  | 79 => ⟨S1024x50x128, .f32⟩
  | 80 => ⟨S1024x50x128, .f32⟩
  | 81 => ⟨S1024x50x128, .f32⟩
  | 82 => ⟨S1024x50x128, .f32⟩
  | 83 => ⟨S1024x50x128, .f32⟩
  | 84 => ⟨S1024x50x128, .f32⟩
  | 85 => ⟨S_, .f32⟩
  | 86 => ⟨S_, .f32⟩
  | 87 => ⟨S1024x50x128, .i1⟩
  | 88 => ⟨S1024x50x128, .f32⟩
  | 89 => ⟨S1024x50x128, .f32⟩
  | 90 => ⟨S1024x50x128, .f32⟩
  | _ => ⟨S1024x50x19, .i32⟩

abbrev hbmTy (i : Nat) : BufTy := match i / 128 with
  | 0 => hbmTy0_0 i
  | 1 => hbmTy0_1 i
  | _ => ⟨S1024x50x19, .i32⟩

abbrev bufTy : (tb : Table) → Fin (tcTables nBuf tb) → BufTy
  | .hbm, ⟨i, _⟩ => hbmTy i
  | _, _ => ⟨S1024x50x19, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_v23 : Ref sig .tc := ⟨.hbm, 56, rfl⟩
abbrev main_c_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_5 : Ref sig .tc := ⟨.hbm, 65, rfl⟩
abbrev main_v31 : Ref sig .tc := ⟨.hbm, 66, rfl⟩
abbrev main_v32 : Ref sig .tc := ⟨.hbm, 67, rfl⟩
abbrev main_c_6 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_7 : Ref sig .tc := ⟨.hbm, 76, rfl⟩
abbrev main_v40 : Ref sig .tc := ⟨.hbm, 77, rfl⟩
abbrev main_v41 : Ref sig .tc := ⟨.hbm, 78, rfl⟩
abbrev main_c_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_9 : Ref sig .tc := ⟨.hbm, 87, rfl⟩
abbrev main_v49 : Ref sig .tc := ⟨.hbm, 88, rfl⟩
abbrev main_v50 : Ref sig .tc := ⟨.hbm, 89, rfl⟩
abbrev main_c_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_11 : Ref sig .tc := ⟨.hbm, 98, rfl⟩
abbrev main_v58 : Ref sig .tc := ⟨.hbm, 99, rfl⟩
abbrev main_v59 : Ref sig .tc := ⟨.hbm, 100, rfl⟩
abbrev main_c_12 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_13 : Ref sig .tc := ⟨.hbm, 109, rfl⟩
abbrev main_v67 : Ref sig .tc := ⟨.hbm, 110, rfl⟩
abbrev main_v68 : Ref sig .tc := ⟨.hbm, 111, rfl⟩
abbrev main_c_14 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_15 : Ref sig .tc := ⟨.hbm, 120, rfl⟩
abbrev main_v76 : Ref sig .tc := ⟨.hbm, 121, rfl⟩
abbrev main_v77 : Ref sig .tc := ⟨.hbm, 122, rfl⟩
abbrev main_c_16 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_17 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_c_18 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_19 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_20 : Ref sig .tc := ⟨.hbm, 155, rfl⟩
abbrev main_v106 : Ref sig .tc := ⟨.hbm, 156, rfl⟩
abbrev main_v107 : Ref sig .tc := ⟨.hbm, 157, rfl⟩
abbrev main_c_21 : Ref sig .tc := ⟨.hbm, 158, rfl⟩
abbrev main_call2_v0 : Ref sig .tc := ⟨.hbm, 159, rfl⟩
abbrev main_call2_v1 : Ref sig .tc := ⟨.hbm, 160, rfl⟩
abbrev main_v108 : Ref sig .tc := ⟨.hbm, 161, rfl⟩
abbrev main_call3_v0 : Ref sig .tc := ⟨.hbm, 162, rfl⟩
abbrev main_call3_v1 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_v5 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_c_22 : Ref sig .tc := ⟨.hbm, 178, rfl⟩
abbrev main_v119 : Ref sig .tc := ⟨.hbm, 179, rfl⟩
abbrev main_v120 : Ref sig .tc := ⟨.hbm, 180, rfl⟩
abbrev main_c_23 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_24 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_25 : Ref sig .tc := ⟨.hbm, 213, rfl⟩
abbrev main_call4_v0 : Ref sig .tc := ⟨.hbm, 214, rfl⟩
abbrev main_call4_v1 : Ref sig .tc := ⟨.hbm, 215, rfl⟩
abbrev main_call4_v2 : Ref sig .tc := ⟨.hbm, 216, rfl⟩
abbrev main_v151 : Ref sig .tc := ⟨.hbm, 217, rfl⟩
abbrev main_v152 : Ref sig .tc := ⟨.hbm, 218, rfl⟩

abbrev nD : Nat := 1
abbrev τ : Topo := Topo.v7x

variable {F : FTy → Type} [FloatOps F]
-- ==== Proof.IdealBody.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.WholeRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

/-- The `n`-th slab (row `n` of the eight) that the body stores into the output's staging buffer, from the contents of the inputs' staging buffers. -/
def slab (X0 : Vec F S19x8x1024 .i32) (X1 : Vec F S8x1024x128 .f32) (X2 : Vec F S8x1024x128 .f32) (X3 : Vec F S128x128 .f32) (X4 : Vec F S128x128 .f32) (X5 : Vec F S7x128 .f32) (X6 : Vec F S152x1024 .bf16) (X7 : Vec F S1x1024 .f32) (X8 : Vec F S8x2 .f32) (X9 : Vec F S8x20 .f32) (X10 : Vec F S152x7 .f32) (X11 : Vec F S152x1024 .f32) (X12 : Vec F S8x128 .f32) (X13 : Vec F S8x128 .f32) (X14 : Vec F S8x128 .f32) (X15 : Vec F S8x128 .f32) (X16 : Vec F S8x128 .f32) (X17 : Vec F S8x128 .f32) (X18 : Vec F S8x128 .f32) (X19 : Vec F S8x128 .f32) (X20 : Vec F S20x128 .f32) (X21 : Vec F S2x128 .f32) (X22 : Vec F S1x128 .f32) (X23 : Vec F S1x128 .f32) (X24 : Vec F S1x128 .f32) (X25 : Vec F S1x128 .f32) (X26 : Vec F S1x128 .f32) : Fin 8 → FVec F S1x1024x128 .f32
  | 0 => k0_pay12 (k0_pay3 X8 X21 X9 X20 X12 X13 X14 X15 X16 X17 X18 X19) (k0_pay5 (k0_pay4 X22) X23 X24 X25 X26) (k0_pay7 X6 X7 X0) (k0_pay8 X10 X5 X11 X0) (k0_pay9 X1) (k0_pay10 X2) X3 X4
  | 1 => k0_pay13 (k0_pay3 X8 X21 X9 X20 X12 X13 X14 X15 X16 X17 X18 X19) (k0_pay5 (k0_pay4 X22) X23 X24 X25 X26) (k0_pay7 X6 X7 X0) (k0_pay8 X10 X5 X11 X0) (k0_pay9 X1) (k0_pay10 X2) X3 X4
  | 2 => k0_pay15 (k0_pay14 (k0_pay3 X8 X21 X9 X20 X12 X13 X14 X15 X16 X17 X18 X19) (k0_pay5 (k0_pay4 X22) X23 X24 X25 X26) (k0_pay7 X6 X7 X0) (k0_pay8 X10 X5 X11 X0) (k0_pay9 X1) (k0_pay10 X2) X3 X4)
  | 3 => k0_pay16 (k0_pay3 X8 X21 X9 X20 X12 X13 X14 X15 X16 X17 X18 X19) (k0_pay5 (k0_pay4 X22) X23 X24 X25 X26) (k0_pay7 X6 X7 X0) (k0_pay8 X10 X5 X11 X0) (k0_pay11 (k0_pay9 X1) (k0_pay10 X2) X3 X4)
  | 4 => k0_pay17 (k0_pay3 X8 X21 X9 X20 X12 X13 X14 X15 X16 X17 X18 X19) (k0_pay5 (k0_pay4 X22) X23 X24 X25 X26) (k0_pay7 X6 X7 X0) (k0_pay8 X10 X5 X11 X0) (k0_pay11 (k0_pay9 X1) (k0_pay10 X2) X3 X4)
  | 5 => k0_pay18 (k0_pay3 X8 X21 X9 X20 X12 X13 X14 X15 X16 X17 X18 X19) (k0_pay5 (k0_pay4 X22) X23 X24 X25 X26) (k0_pay7 X6 X7 X0) (k0_pay8 X10 X5 X11 X0) (k0_pay11 (k0_pay9 X1) (k0_pay10 X2) X3 X4)
  | 6 => k0_pay1 (k0_pay19 (k0_pay3 X8 X21 X9 X20 X12 X13 X14 X15 X16 X17 X18 X19) (k0_pay5 (k0_pay4 X22) X23 X24 X25 X26) (k0_pay7 X6 X7 X0) (k0_pay8 X10 X5 X11 X0) (k0_pay11 (k0_pay9 X1) (k0_pay10 X2) X3 X4))
  | 7 => k0_pay2 (k0_pay3 X8 X21 X9 X20 X12 X13 X14 X15 X16 X17 X18 X19) (k0_pay5 (k0_pay4 X22) X23 X24 X25 X26) (k0_pay7 X6 X7 X0) (k0_pay8 X10 X5 X11 X0) (k0_pay11 (k0_pay9 X1) (k0_pay10 X2) X3 X4)

/-- The index of a slab that an index of the whole block names within its own slab. -/
def flat (j : S8x1024x128.Idx) : S1x1024x128.Idx := fun
  | ⟨0, _⟩ => ⟨0, Nat.one_pos⟩
  | ⟨1, _⟩ => j 1
  | ⟨2, _⟩ => j 2

/-- The whole block that the body leaves in the output's staging buffer: its eight slabs side by side. -/
def outBlk (X0 : Vec F S19x8x1024 .i32) (X1 : Vec F S8x1024x128 .f32) (X2 : Vec F S8x1024x128 .f32) (X3 : Vec F S128x128 .f32) (X4 : Vec F S128x128 .f32) (X5 : Vec F S7x128 .f32) (X6 : Vec F S152x1024 .bf16) (X7 : Vec F S1x1024 .f32) (X8 : Vec F S8x2 .f32) (X9 : Vec F S8x20 .f32) (X10 : Vec F S152x7 .f32) (X11 : Vec F S152x1024 .f32) (X12 : Vec F S8x128 .f32) (X13 : Vec F S8x128 .f32) (X14 : Vec F S8x128 .f32) (X15 : Vec F S8x128 .f32) (X16 : Vec F S8x128 .f32) (X17 : Vec F S8x128 .f32) (X18 : Vec F S8x128 .f32) (X19 : Vec F S8x128 .f32) (X20 : Vec F S20x128 .f32) (X21 : Vec F S2x128 .f32) (X22 : Vec F S1x128 .f32) (X23 : Vec F S1x128 .f32) (X24 : Vec F S1x128 .f32) (X25 : Vec F S1x128 .f32) (X26 : Vec F S1x128 .f32) : Vec F S8x1024x128 .f32 := fun j =>
  slab X0 X1 X2 X3 X4 X5 X6 X7 X8 X9 X10 X11 X12 X13 X14 X15 X16 X17 X18 X19 X20 X21 X22 X23 X24 X25 X26 (j 0) (flat j)

/-- A load of a whole memref at offset zero reads its contents. -/
theorem readAt_whole {κ : Kind} {sp : Space} {s : Shape} {e : EltTy} {m : Memref sig κ sp s e} (h : m.IsWhole)
    (X : s.Idx → Elt F e) {off : Fin s.rank → ℕ} (hz : off = fun _ => 0) (inb : ∀ a, off a + s.size a ≤ s.size a) :
    View.readAt (Elt F) m.view (Rect.unit off s.size inb).toLoadRect (h.unread X) = X := by
  subst hz
  funext x
  rw [h.readAt_unread]
  exact congrArg X (funext fun a => Fin.ext (by simp [LoadRect.idx, Rect.toLoadRect]))

/-- The start of a buffer of rank two. -/
theorem zero2 : (![0, 0] : Fin 2 → ℕ) = fun _ => 0 := by funext a; fin_cases a <;> rfl
/-- The start of a buffer of rank three. -/
theorem zero3 : (![0, 0, 0] : Fin 3 → ℕ) = fun _ => 0 := by funext a; fin_cases a <;> rfl

/-- The `n`-th of eight slabs side by side, read through the rectangle of row `n`, is that slab. -/
theorem slab_emb (S : Fin 8 → Vec F S1x1024x128 .f32) (n : Fin 8)
    (inb : ∀ a, (![n.val, 0, 0] : Fin 3 → ℕ) a + (![1, 1024, 128] : Fin 3 → ℕ) a ≤ S8x1024x128.size a) (x : S1x1024x128.Idx) :
    S (((Rect.unit (s := S8x1024x128) ![n.val, 0, 0] ![1, 1024, 128] inb).emb x) 0)
      (flat ((Rect.unit (s := S8x1024x128) ![n.val, 0, 0] ![1, 1024, 128] inb).emb x)) = S n x := by
  have hx : (x 0).val = 0 := Nat.lt_one_iff.mp (x 0).isLt
  have h0 : ((Rect.unit (s := S8x1024x128) ![n.val, 0, 0] ![1, 1024, 128] inb).emb x) 0 = n :=
    Fin.ext (show n.val + 1 * (x 0).val = n.val by omega)
  have hr : flat ((Rect.unit (s := S8x1024x128) ![n.val, 0, 0] ![1, 1024, 128] inb).emb x) = x := by
    funext a
    match a with
    | ⟨0, _⟩ => exact Fin.ext hx.symm
    | ⟨1, _⟩ => exact Fin.ext (show 0 + 1 * (x 1).val = (x 1).val by omega)
    | ⟨2, _⟩ => exact Fin.ext (show 0 + 1 * (x 2).val = (x 2).val by omega)
  exact (congrFun (congrArg S h0) _).trans (congrArg (S n) hr)

/-- An index of the block lies in the rectangle of its row. -/
theorem mem_row (n : ℕ) (y : S8x1024x128.Idx) (h : (y 0).val = n)
    (inb : ∀ a, (![n, 0, 0] : Fin 3 → ℕ) a + (![1, 1024, 128] : Fin 3 → ℕ) a ≤ S8x1024x128.size a) :
    y ∈ (Rect.unit (s := S8x1024x128) ![n, 0, 0] ![1, 1024, 128] inb).set := by
  rw [Rect.mem_set_unit]
  intro a
  match a with
  | ⟨0, _⟩ => exact ⟨show n ≤ (y 0).val by omega, show (y 0).val < n + 1 by omega⟩
  | ⟨1, _⟩ => exact ⟨Nat.zero_le _, show (y 1).val < 0 + 1024 by have := (y 1).isLt; exact Nat.lt_of_lt_of_eq this (Nat.zero_add _).symm⟩
  | ⟨2, _⟩ => exact ⟨Nat.zero_le _, show (y 2).val < 0 + 128 by have := (y 2).isLt; exact Nat.lt_of_lt_of_eq this (Nat.zero_add _).symm⟩

set_option maxHeartbeats 16000000 in
/-- The body's triple: the inputs' staging buffers are read and kept, and the output's ends at `outBlk` of them. -/
theorem kernelRun (c : Dev nD) (E : Set ℕ) (i : grid0.Coords) (arg2 : Memref sig .tc .vmem S19x8x1024 .i32) (harg2 : arg2.IsWhole) (arg3 : Memref sig .tc .vmem S8x1024x128 .f32) (harg3 : arg3.IsWhole) (arg4 : Memref sig .tc .vmem S8x1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S7x128 .f32) (harg7 : arg7.IsWhole) (arg8 : Memref sig .tc .vmem S152x1024 .bf16) (harg8 : arg8.IsWhole) (arg9 : Memref sig .tc .vmem S1x1024 .f32) (harg9 : arg9.IsWhole) (arg10 : Memref sig .tc .vmem S8x2 .f32) (harg10 : arg10.IsWhole) (arg11 : Memref sig .tc .vmem S8x20 .f32) (harg11 : arg11.IsWhole) (arg12 : Memref sig .tc .vmem S152x7 .f32) (harg12 : arg12.IsWhole) (arg13 : Memref sig .tc .vmem S152x1024 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S20x128 .f32) (harg22 : arg22.IsWhole) (arg23 : Memref sig .tc .vmem S2x128 .f32) (harg23 : arg23.IsWhole) (arg24 : Memref sig .tc .vmem S1x128 .f32) (harg24 : arg24.IsWhole) (arg25 : Memref sig .tc .vmem S1x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S8x1024x128 .f32) (harg29 : arg29.IsWhole)
    (X0 : Vec F S19x8x1024 .i32) (X1 : Vec F S8x1024x128 .f32) (X2 : Vec F S8x1024x128 .f32) (X3 : Vec F S128x128 .f32) (X4 : Vec F S128x128 .f32) (X5 : Vec F S7x128 .f32) (X6 : Vec F S152x1024 .bf16) (X7 : Vec F S1x1024 .f32) (X8 : Vec F S8x2 .f32) (X9 : Vec F S8x20 .f32) (X10 : Vec F S152x7 .f32) (X11 : Vec F S152x1024 .f32) (X12 : Vec F S8x128 .f32) (X13 : Vec F S8x128 .f32) (X14 : Vec F S8x128 .f32) (X15 : Vec F S8x128 .f32) (X16 : Vec F S8x128 .f32) (X17 : Vec F S8x128 .f32) (X18 : Vec F S8x128 .f32) (X19 : Vec F S8x128 .f32) (X20 : Vec F S20x128 .f32) (X21 : Vec F S2x128 .f32) (X22 : Vec F S1x128 .f32) (X23 : Vec F S1x128 .f32) (X24 : Vec F S1x128 .f32) (X25 : Vec F S1x128 .f32) (X26 : Vec F S1x128 .f32) (K : PUnit → sProp 𝕄) :
    iprop((owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare X12 ∗ owns (c : Thread nD τ) arg15 fullShare X13 ∗ owns (c : Thread nD τ) arg16 fullShare X14 ∗ owns (c : Thread nD τ) arg17 fullShare X15 ∗ owns (c : Thread nD τ) arg18 fullShare X16 ∗ owns (c : Thread nD τ) arg19 fullShare X17 ∗ owns (c : Thread nD τ) arg20 fullShare X18 ∗ owns (c : Thread nD τ) arg21 fullShare X19 ∗ owns (c : Thread nD τ) arg22 fullShare X20 ∗ owns (c : Thread nD τ) arg23 fullShare X21 ∗ owns (c : Thread nD τ) arg24 fullShare X22 ∗ owns (c : Thread nD τ) arg25 fullShare X23 ∗ owns (c : Thread nD τ) arg26 fullShare X24 ∗ owns (c : Thread nD τ) arg27 fullShare X25 ∗ owns (c : Thread nD τ) arg28 fullShare X26 ∗ (∃ d, owns (c : Thread nD τ) arg29 fullShare d))
        ∗ (iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare X6 ∗ owns (c : Thread nD τ) arg9 fullShare X7 ∗ owns (c : Thread nD τ) arg10 fullShare X8 ∗ owns (c : Thread nD τ) arg11 fullShare X9 ∗ owns (c : Thread nD τ) arg12 fullShare X10 ∗ owns (c : Thread nD τ) arg13 fullShare X11 ∗ owns (c : Thread nD τ) arg14 fullShare X12 ∗ owns (c : Thread nD τ) arg15 fullShare X13 ∗ owns (c : Thread nD τ) arg16 fullShare X14 ∗ owns (c : Thread nD τ) arg17 fullShare X15 ∗ owns (c : Thread nD τ) arg18 fullShare X16 ∗ owns (c : Thread nD τ) arg19 fullShare X17 ∗ owns (c : Thread nD τ) arg20 fullShare X18 ∗ owns (c : Thread nD τ) arg21 fullShare X19 ∗ owns (c : Thread nD τ) arg22 fullShare X20 ∗ owns (c : Thread nD τ) arg23 fullShare X21 ∗ owns (c : Thread nD τ) arg24 fullShare X22 ∗ owns (c : Thread nD τ) arg25 fullShare X23 ∗ owns (c : Thread nD τ) arg26 fullShare X24 ∗ owns (c : Thread nD τ) arg27 fullShare X25 ∗ owns (c : Thread nD τ) arg28 fullShare X26 ∗ owns (c : Thread nD τ) arg29 fullShare (outBlk X0 X1 X2 X3 X4 X5 X6 X7 X8 X9 X10 X11 X12 X13 X14 X15 X16 X17 X18 X19 X20 X21 X22 X23 X24 X25 X26)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0__body_eq_skeleton]; unfold cc0__body_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, %hf27, H27⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  obtain rfl := harg16.eq_unread hf14
  obtain rfl := harg17.eq_unread hf15
  obtain rfl := harg18.eq_unread hf16
  obtain rfl := harg19.eq_unread hf17
  obtain rfl := harg20.eq_unread hf18
  obtain rfl := harg21.eq_unread hf19
  obtain rfl := harg22.eq_unread hf20
  obtain rfl := harg23.eq_unread hf21
  obtain rfl := harg24.eq_unread hf22
  obtain rfl := harg25.eq_unread hf23
  obtain rfl := harg26.eq_unread hf24
  obtain rfl := harg27.eq_unread hf25
  obtain rfl := harg28.eq_unread hf26
  sl_exec_parts
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  isplitl [H19]
  · iexists _; isplitr; · ipureintro; exact harg21.read_unread _
    iexact H19
  isplitl [H20]
  · iexists _; isplitr; · ipureintro; exact harg22.read_unread _
    iexact H20
  isplitl [H21]
  · iexists _; isplitr; · ipureintro; exact harg23.read_unread _
    iexact H21
  isplitl [H22]
  · iexists _; isplitr; · ipureintro; exact harg24.read_unread _
    iexact H22
  isplitl [H23]
  · iexists _; isplitr; · ipureintro; exact harg25.read_unread _
    iexact H23
  isplitl [H24]
  · iexists _; isplitr; · ipureintro; exact harg26.read_unread _
    iexact H24
  isplitl [H25]
  · iexists _; isplitr; · ipureintro; exact harg27.read_unread _
    iexact H25
  isplitl [H26]
  · iexists _; isplitr; · ipureintro; exact harg28.read_unread _
    iexact H26
  iexists _; isplitr; swap; · iexact H27
  ipureintro
  have e0 : ∀ inb, View.readAt (Elt F) arg2.view (Rect.unit (s := S19x8x1024) ![0, 0, 0] ![19, 8, 1024] inb).toLoadRect (harg2.unread X0) = X0 := fun inb => readAt_whole harg2 X0 zero3 inb
  have e1 : ∀ inb, View.readAt (Elt F) arg3.view (Rect.unit (s := S8x1024x128) ![0, 0, 0] ![8, 1024, 128] inb).toLoadRect (harg3.unread X1) = X1 := fun inb => readAt_whole harg3 X1 zero3 inb
  have e2 : ∀ inb, View.readAt (Elt F) arg4.view (Rect.unit (s := S8x1024x128) ![0, 0, 0] ![8, 1024, 128] inb).toLoadRect (harg4.unread X2) = X2 := fun inb => readAt_whole harg4 X2 zero3 inb
  have e3 : ∀ inb, View.readAt (Elt F) arg5.view (Rect.unit (s := S128x128) ![0, 0] ![128, 128] inb).toLoadRect (harg5.unread X3) = X3 := fun inb => readAt_whole harg5 X3 zero2 inb
  have e4 : ∀ inb, View.readAt (Elt F) arg6.view (Rect.unit (s := S128x128) ![0, 0] ![128, 128] inb).toLoadRect (harg6.unread X4) = X4 := fun inb => readAt_whole harg6 X4 zero2 inb
  have e5 : ∀ inb, View.readAt (Elt F) arg7.view (Rect.unit (s := S7x128) ![0, 0] ![7, 128] inb).toLoadRect (harg7.unread X5) = X5 := fun inb => readAt_whole harg7 X5 zero2 inb
  have e6 : ∀ inb, View.readAt (Elt F) arg8.view (Rect.unit (s := S152x1024) ![0, 0] ![152, 1024] inb).toLoadRect (harg8.unread X6) = X6 := fun inb => readAt_whole harg8 X6 zero2 inb
  have e7 : ∀ inb, View.readAt (Elt F) arg9.view (Rect.unit (s := S1x1024) ![0, 0] ![1, 1024] inb).toLoadRect (harg9.unread X7) = X7 := fun inb => readAt_whole harg9 X7 zero2 inb
  have e8 : ∀ inb, View.readAt (Elt F) arg10.view (Rect.unit (s := S8x2) ![0, 0] ![8, 2] inb).toLoadRect (harg10.unread X8) = X8 := fun inb => readAt_whole harg10 X8 zero2 inb
  have e9 : ∀ inb, View.readAt (Elt F) arg11.view (Rect.unit (s := S8x20) ![0, 0] ![8, 20] inb).toLoadRect (harg11.unread X9) = X9 := fun inb => readAt_whole harg11 X9 zero2 inb
  have e10 : ∀ inb, View.readAt (Elt F) arg12.view (Rect.unit (s := S152x7) ![0, 0] ![152, 7] inb).toLoadRect (harg12.unread X10) = X10 := fun inb => readAt_whole harg12 X10 zero2 inb
  have e11 : ∀ inb, View.readAt (Elt F) arg13.view (Rect.unit (s := S152x1024) ![0, 0] ![152, 1024] inb).toLoadRect (harg13.unread X11) = X11 := fun inb => readAt_whole harg13 X11 zero2 inb
  have e12 : ∀ inb, View.readAt (Elt F) arg14.view (Rect.unit (s := S8x128) ![0, 0] ![8, 128] inb).toLoadRect (harg14.unread X12) = X12 := fun inb => readAt_whole harg14 X12 zero2 inb
  have e13 : ∀ inb, View.readAt (Elt F) arg15.view (Rect.unit (s := S8x128) ![0, 0] ![8, 128] inb).toLoadRect (harg15.unread X13) = X13 := fun inb => readAt_whole harg15 X13 zero2 inb
  have e14 : ∀ inb, View.readAt (Elt F) arg16.view (Rect.unit (s := S8x128) ![0, 0] ![8, 128] inb).toLoadRect (harg16.unread X14) = X14 := fun inb => readAt_whole harg16 X14 zero2 inb
  have e15 : ∀ inb, View.readAt (Elt F) arg17.view (Rect.unit (s := S8x128) ![0, 0] ![8, 128] inb).toLoadRect (harg17.unread X15) = X15 := fun inb => readAt_whole harg17 X15 zero2 inb
  have e16 : ∀ inb, View.readAt (Elt F) arg18.view (Rect.unit (s := S8x128) ![0, 0] ![8, 128] inb).toLoadRect (harg18.unread X16) = X16 := fun inb => readAt_whole harg18 X16 zero2 inb
  have e17 : ∀ inb, View.readAt (Elt F) arg19.view (Rect.unit (s := S8x128) ![0, 0] ![8, 128] inb).toLoadRect (harg19.unread X17) = X17 := fun inb => readAt_whole harg19 X17 zero2 inb
  have e18 : ∀ inb, View.readAt (Elt F) arg20.view (Rect.unit (s := S8x128) ![0, 0] ![8, 128] inb).toLoadRect (harg20.unread X18) = X18 := fun inb => readAt_whole harg20 X18 zero2 inb
  have e19 : ∀ inb, View.readAt (Elt F) arg21.view (Rect.unit (s := S8x128) ![0, 0] ![8, 128] inb).toLoadRect (harg21.unread X19) = X19 := fun inb => readAt_whole harg21 X19 zero2 inb
  have e20 : ∀ inb, View.readAt (Elt F) arg22.view (Rect.unit (s := S20x128) ![0, 0] ![20, 128] inb).toLoadRect (harg22.unread X20) = X20 := fun inb => readAt_whole harg22 X20 zero2 inb
  have e21 : ∀ inb, View.readAt (Elt F) arg23.view (Rect.unit (s := S2x128) ![0, 0] ![2, 128] inb).toLoadRect (harg23.unread X21) = X21 := fun inb => readAt_whole harg23 X21 zero2 inb
  have e22 : ∀ inb, View.readAt (Elt F) arg24.view (Rect.unit (s := S1x128) ![0, 0] ![1, 128] inb).toLoadRect (harg24.unread X22) = X22 := fun inb => readAt_whole harg24 X22 zero2 inb
  have e23 : ∀ inb, View.readAt (Elt F) arg25.view (Rect.unit (s := S1x128) ![0, 0] ![1, 128] inb).toLoadRect (harg25.unread X23) = X23 := fun inb => readAt_whole harg25 X23 zero2 inb
  have e24 : ∀ inb, View.readAt (Elt F) arg26.view (Rect.unit (s := S1x128) ![0, 0] ![1, 128] inb).toLoadRect (harg26.unread X24) = X24 := fun inb => readAt_whole harg26 X24 zero2 inb
  have e25 : ∀ inb, View.readAt (Elt F) arg27.view (Rect.unit (s := S1x128) ![0, 0] ![1, 128] inb).toLoadRect (harg27.unread X25) = X25 := fun inb => readAt_whole harg27 X25 zero2 inb
  have e26 : ∀ inb, View.readAt (Elt F) arg28.view (Rect.unit (s := S1x128) ![0, 0] ![1, 128] inb).toLoadRect (harg28.unread X26) = X26 := fun inb => readAt_whole harg28 X26 zero2 inb
  delta kernelRun.sl.H27_2
  repeat delta kernelRun.sl.r kernelRun.sl.r_1 kernelRun.sl.r_3 kernelRun.sl.r_4 kernelRun.sl.r_8 kernelRun.sl.r_9 kernelRun.sl.r_2 kernelRun.sl.r_5 kernelRun.sl.r_6 kernelRun.sl.r_7 kernelRun.sl.r_10 kernelRun.sl.r_11 kernelRun.sl.r_12
  simp only [e0, e1, e2, e3, e4, e5, e6, e7, e8, e9, e10, e11, e12, e13, e14, e15, e16, e17, e18, e19, e20, e21, e22, e23, e24, e25, e26]
  funext y
  refine View.read_writes_apply_of_pieces _ _ (outBlk X0 X1 X2 X3 X4 X5 X6 X7 X8 X9 X10 X11 X12 X13 X14 X15 X16 X17 X18 X19 X20 X21 X22 X23 X24 X25 X26) _ ?_ y ?_
  · intro p hp x
    simp only [List.mem_cons, List.mem_nil_iff, _root_.or_false] at hp
    rcases hp with rfl | rfl | rfl | rfl | rfl | rfl | rfl | rfl
    · exact (slab_emb (slab X0 X1 X2 X3 X4 X5 X6 X7 X8 X9 X10 X11 X12 X13 X14 X15 X16 X17 X18 X19 X20 X21 X22 X23 X24 X25 X26) 7 inb_S8x1024x128_S1x1024x128_7_0_0 x).symm
    · exact (slab_emb (slab X0 X1 X2 X3 X4 X5 X6 X7 X8 X9 X10 X11 X12 X13 X14 X15 X16 X17 X18 X19 X20 X21 X22 X23 X24 X25 X26) 6 inb_S8x1024x128_S1x1024x128_6_0_0 x).symm
    · exact (slab_emb (slab X0 X1 X2 X3 X4 X5 X6 X7 X8 X9 X10 X11 X12 X13 X14 X15 X16 X17 X18 X19 X20 X21 X22 X23 X24 X25 X26) 5 inb_S8x1024x128_S1x1024x128_5_0_0 x).symm
    · exact (slab_emb (slab X0 X1 X2 X3 X4 X5 X6 X7 X8 X9 X10 X11 X12 X13 X14 X15 X16 X17 X18 X19 X20 X21 X22 X23 X24 X25 X26) 4 inb_S8x1024x128_S1x1024x128_4_0_0 x).symm
    · exact (slab_emb (slab X0 X1 X2 X3 X4 X5 X6 X7 X8 X9 X10 X11 X12 X13 X14 X15 X16 X17 X18 X19 X20 X21 X22 X23 X24 X25 X26) 3 inb_S8x1024x128_S1x1024x128_3_0_0 x).symm
    · exact (slab_emb (slab X0 X1 X2 X3 X4 X5 X6 X7 X8 X9 X10 X11 X12 X13 X14 X15 X16 X17 X18 X19 X20 X21 X22 X23 X24 X25 X26) 2 inb_S8x1024x128_S1x1024x128_2_0_0 x).symm
    · exact (slab_emb (slab X0 X1 X2 X3 X4 X5 X6 X7 X8 X9 X10 X11 X12 X13 X14 X15 X16 X17 X18 X19 X20 X21 X22 X23 X24 X25 X26) 1 inb_S8x1024x128_S1x1024x128_1_0_0 x).symm
    · exact (slab_emb (slab X0 X1 X2 X3 X4 X5 X6 X7 X8 X9 X10 X11 X12 X13 X14 X15 X16 X17 X18 X19 X20 X21 X22 X23 X24 X25 X26) 0 inb_S8x1024x128_S1x1024x128_0_0_0 x).symm
  · have hy : (y 0).val < 8 := (y 0).isLt
    have hc : (y 0).val = 7 ∨ (y 0).val = 6 ∨ (y 0).val = 5 ∨ (y 0).val = 4 ∨ (y 0).val = 3 ∨ (y 0).val = 2 ∨ (y 0).val = 1 ∨ (y 0).val = 0 := by omega
    simp only [List.mem_cons, List.mem_nil_iff, _root_.or_false, exists_eq_or_imp, exists_eq_left]
    exact hc.imp (fun h => mem_row 7 y h _) (Or.imp (fun h => mem_row 6 y h _) (Or.imp (fun h => mem_row 5 y h _) (Or.imp (fun h => mem_row 4 y h _) (Or.imp (fun h => mem_row 3 y h _) (Or.imp (fun h => mem_row 2 y h _) (Or.imp (fun h => mem_row 1 y h _) (fun h => mem_row 0 y h _)))))))

end Cert.KernelIdeal.Hand

end
-- ==== Proof.IdealFrame.lean ====
module

public import proofs.«01_k».proof.Proof.IdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows' buffers hold -/

/-- What input window 0's staging buffer holds at point `t`: its block on the rows inside the array, `d` past the array's end. -/
def in0 (c : Dev nD) (t : Fin cfg0.N) (d : Vec F S19x8x1024 .i32) : Vec F S19x8x1024 .i32 :=
  (cfg0.win 0).fill (grid0.coords t) d (iblk m c 0 t)
/-- A filler for the rows past the array's end, which nothing reads. -/
def pad0 : Vec F S19x8x1024 .i32 := fun _ => 0#32
/-- What input window 1's staging buffer holds at point `t`: its block on the rows inside the array, `d` past the array's end. -/
def in1 (c : Dev nD) (t : Fin cfg0.N) (d : Vec F S8x1024x128 .f32) : Vec F S8x1024x128 .f32 :=
  (cfg0.win 1).fill (grid0.coords t) d (iblk m c 1 t)
/-- A filler for the rows past the array's end, which nothing reads. -/
def pad1 : Vec F S8x1024x128 .f32 := fun _ => FloatOps.ofBits .f32 0#32
/-- What input window 2's staging buffer holds at point `t`: its block on the rows inside the array, `d` past the array's end. -/
def in2 (c : Dev nD) (t : Fin cfg0.N) (d : Vec F S8x1024x128 .f32) : Vec F S8x1024x128 .f32 :=
  (cfg0.win 2).fill (grid0.coords t) d (iblk m c 2 t)
/-- A filler for the rows past the array's end, which nothing reads. -/
def pad2 : Vec F S8x1024x128 .f32 := fun _ => FloatOps.ofBits .f32 0#32

/-- The proof data on core `c`: every array as the region finds it; after the body each input's staging buffer at its block and
    the output's at `A27`; the class's invariant; full shares; nothing owed. -/
def dats (A27 : (c : Dev nD) → Fin cfg0.N → Vec F S8x1024x128 .f32) (_ : Fin 1) (c : Dev nD) : Dat τ (Elt F) Unit ℕ (UR sig nD τ) ℕ cfg0 c where
  A w := V m c (Pipeline.arrRef spec0 w)
  after w t := match w with
    | ⟨0, _⟩ => in0 m c t pad0
    | ⟨1, _⟩ => in1 m c t pad1
    | ⟨2, _⟩ => in2 m c t pad2
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => X0_12 m c t
    | ⟨13, _⟩ => X0_13 m c t
    | ⟨14, _⟩ => X0_14 m c t
    | ⟨15, _⟩ => iblk m c 15 t
    | ⟨16, _⟩ => iblk m c 16 t
    | ⟨17, _⟩ => iblk m c 17 t
    | ⟨18, _⟩ => iblk m c 18 t
    | ⟨19, _⟩ => X0_19 m c t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => A27 c t
    | ⟨_ + 28, h⟩ => absurd h (Nat.not_lt.2 (Nat.le_add_left _ _))
  Φ _ := Pipeline.ΦA spec0 c
  q _ := fullShare
  owed _ := 0

variable (A27 : (c : Dev nD) → Fin cfg0.N → Vec F S8x1024x128 .f32)

/-- The arrays the region finds. -/
theorem A_eq (c : Dev nD) (w : Fin cfg0.W) : (dats m A27 0 c).A w = V m c (Pipeline.arrRef spec0 w) := by dsimp only [dats]

/-- Window 0's buffer after the body. -/
theorem after_0 (c : Dev nD) (t : Fin cfg0.N) : (dats m A27 0 c).after 0 t = in0 m c t pad0 := by dsimp only [dats]
/-- Window 1's buffer after the body. -/
theorem after_1 (c : Dev nD) (t : Fin cfg0.N) : (dats m A27 0 c).after 1 t = in1 m c t pad1 := by dsimp only [dats]
/-- Window 2's buffer after the body. -/
theorem after_2 (c : Dev nD) (t : Fin cfg0.N) : (dats m A27 0 c).after 2 t = in2 m c t pad2 := by dsimp only [dats]
/-- Window 3's buffer after the body. -/
theorem after_3 (c : Dev nD) (t : Fin cfg0.N) : (dats m A27 0 c).after 3 t = iblk m c 3 t := by dsimp only [dats]
/-- Window 4's buffer after the body. -/
theorem after_4 (c : Dev nD) (t : Fin cfg0.N) : (dats m A27 0 c).after 4 t = iblk m c 4 t := by dsimp only [dats]
/-- Window 5's buffer after the body. -/
theorem after_5 (c : Dev nD) (t : Fin cfg0.N) : (dats m A27 0 c).after 5 t = iblk m c 5 t := by dsimp only [dats]
/-- Window 6's buffer after the body. -/
theorem after_6 (c : Dev nD) (t : Fin cfg0.N) : (dats m A27 0 c).after 6 t = iblk m c 6 t := by dsimp only [dats]
/-- Window 7's buffer after the body. -/
theorem after_7 (c : Dev nD) (t : Fin cfg0.N) : (dats m A27 0 c).after 7 t = iblk m c 7 t := by dsimp only [dats]
/-- Window 8's buffer after the body. -/
theorem after_8 (c : Dev nD) (t : Fin cfg0.N) : (dats m A27 0 c).after 8 t = iblk m c 8 t := by dsimp only [dats]
/-- Window 9's buffer after the body. -/
theorem after_9 (c : Dev nD) (t : Fin cfg0.N) : (dats m A27 0 c).after 9 t = iblk m c 9 t := by dsimp only [dats]
/-- Window 10's buffer after the body. -/
theorem after_10 (c : Dev nD) (t : Fin cfg0.N) : (dats m A27 0 c).after 10 t = iblk m c 10 t := by dsimp only [dats]
/-- Window 11's buffer after the body. -/
theorem after_11 (c : Dev nD) (t : Fin cfg0.N) : (dats m A27 0 c).after 11 t = iblk m c 11 t := by dsimp only [dats]
/-- Window 12's buffer after the body. -/
theorem after_12 (c : Dev nD) (t : Fin cfg0.N) : (dats m A27 0 c).after 12 t = X0_12 m c t := by dsimp only [dats]
/-- Window 13's buffer after the body. -/
theorem after_13 (c : Dev nD) (t : Fin cfg0.N) : (dats m A27 0 c).after 13 t = X0_13 m c t := by dsimp only [dats]
/-- Window 14's buffer after the body. -/
theorem after_14 (c : Dev nD) (t : Fin cfg0.N) : (dats m A27 0 c).after 14 t = X0_14 m c t := by dsimp only [dats]
/-- Window 15's buffer after the body. -/
theorem after_15 (c : Dev nD) (t : Fin cfg0.N) : (dats m A27 0 c).after 15 t = iblk m c 15 t := by dsimp only [dats]
/-- Window 16's buffer after the body. -/
theorem after_16 (c : Dev nD) (t : Fin cfg0.N) : (dats m A27 0 c).after 16 t = iblk m c 16 t := by dsimp only [dats]
/-- Window 17's buffer after the body. -/
theorem after_17 (c : Dev nD) (t : Fin cfg0.N) : (dats m A27 0 c).after 17 t = iblk m c 17 t := by dsimp only [dats]
/-- Window 18's buffer after the body. -/
theorem after_18 (c : Dev nD) (t : Fin cfg0.N) : (dats m A27 0 c).after 18 t = iblk m c 18 t := by dsimp only [dats]
/-- Window 19's buffer after the body. -/
theorem after_19 (c : Dev nD) (t : Fin cfg0.N) : (dats m A27 0 c).after 19 t = X0_19 m c t := by dsimp only [dats]
/-- Window 20's buffer after the body. -/
theorem after_20 (c : Dev nD) (t : Fin cfg0.N) : (dats m A27 0 c).after 20 t = iblk m c 20 t := by dsimp only [dats]
/-- Window 21's buffer after the body. -/
theorem after_21 (c : Dev nD) (t : Fin cfg0.N) : (dats m A27 0 c).after 21 t = iblk m c 21 t := by dsimp only [dats]
/-- Window 22's buffer after the body. -/
theorem after_22 (c : Dev nD) (t : Fin cfg0.N) : (dats m A27 0 c).after 22 t = iblk m c 22 t := by dsimp only [dats]
/-- Window 23's buffer after the body. -/
theorem after_23 (c : Dev nD) (t : Fin cfg0.N) : (dats m A27 0 c).after 23 t = iblk m c 23 t := by dsimp only [dats]
/-- Window 24's buffer after the body. -/
theorem after_24 (c : Dev nD) (t : Fin cfg0.N) : (dats m A27 0 c).after 24 t = iblk m c 24 t := by dsimp only [dats]
/-- Window 25's buffer after the body. -/
theorem after_25 (c : Dev nD) (t : Fin cfg0.N) : (dats m A27 0 c).after 25 t = iblk m c 25 t := by dsimp only [dats]
/-- Window 26's buffer after the body. -/
theorem after_26 (c : Dev nD) (t : Fin cfg0.N) : (dats m A27 0 c).after 26 t = iblk m c 26 t := by dsimp only [dats]
/-- Window 27's buffer after the body. -/
theorem after_27 (c : Dev nD) (t : Fin cfg0.N) : (dats m A27 0 c).after 27 t = A27 c t := by dsimp only [dats]
/-- Window 0's buffer before the body. -/
theorem before_0 (c : Dev nD) (t : Fin cfg0.N) (d) : (dats m A27 0 c).before 0 t d = in0 m c t d := by
  unfold Dat.before; rw [if_pos (fetch0_0 t)]; rfl
/-- Window 1's buffer before the body. -/
theorem before_1 (c : Dev nD) (t : Fin cfg0.N) (d) : (dats m A27 0 c).before 1 t d = in1 m c t d := by
  unfold Dat.before; rw [if_pos (fetch0_1 t)]; rfl
/-- Window 2's buffer before the body. -/
theorem before_2 (c : Dev nD) (t : Fin cfg0.N) (d) : (dats m A27 0 c).before 2 t d = in2 m c t d := by
  unfold Dat.before; rw [if_pos (fetch0_2 t)]; rfl
/-- Window 3's buffer before the body. -/
theorem before_3 (c : Dev nD) (t : Fin cfg0.N) (d) : (dats m A27 0 c).before 3 t d = iblk m c 3 t :=
  before0_3_of m (dats m A27 0 c) (A_eq m A27 c 3) (after_3 m A27 c) t d
/-- Window 4's buffer before the body. -/
theorem before_4 (c : Dev nD) (t : Fin cfg0.N) (d) : (dats m A27 0 c).before 4 t d = iblk m c 4 t :=
  before0_4_of m (dats m A27 0 c) (A_eq m A27 c 4) (after_4 m A27 c) t d
/-- Window 5's buffer before the body. -/
theorem before_5 (c : Dev nD) (t : Fin cfg0.N) (d) : (dats m A27 0 c).before 5 t d = iblk m c 5 t :=
  before0_5_of m (dats m A27 0 c) (A_eq m A27 c 5) (after_5 m A27 c) t d
/-- Window 6's buffer before the body. -/
theorem before_6 (c : Dev nD) (t : Fin cfg0.N) (d) : (dats m A27 0 c).before 6 t d = iblk m c 6 t :=
  before0_6_of m (dats m A27 0 c) (A_eq m A27 c 6) (after_6 m A27 c) t d
/-- Window 7's buffer before the body. -/
theorem before_7 (c : Dev nD) (t : Fin cfg0.N) (d) : (dats m A27 0 c).before 7 t d = iblk m c 7 t :=
  before0_7_of m (dats m A27 0 c) (A_eq m A27 c 7) (after_7 m A27 c) t d
/-- Window 8's buffer before the body. -/
theorem before_8 (c : Dev nD) (t : Fin cfg0.N) (d) : (dats m A27 0 c).before 8 t d = iblk m c 8 t :=
  before0_8_of m (dats m A27 0 c) (A_eq m A27 c 8) (after_8 m A27 c) t d
/-- Window 9's buffer before the body. -/
theorem before_9 (c : Dev nD) (t : Fin cfg0.N) (d) : (dats m A27 0 c).before 9 t d = iblk m c 9 t :=
  before0_9_of m (dats m A27 0 c) (A_eq m A27 c 9) (after_9 m A27 c) t d
/-- Window 10's buffer before the body. -/
theorem before_10 (c : Dev nD) (t : Fin cfg0.N) (d) : (dats m A27 0 c).before 10 t d = iblk m c 10 t :=
  before0_10_of m (dats m A27 0 c) (A_eq m A27 c 10) (after_10 m A27 c) t d
/-- Window 11's buffer before the body. -/
theorem before_11 (c : Dev nD) (t : Fin cfg0.N) (d) : (dats m A27 0 c).before 11 t d = iblk m c 11 t :=
  before0_11_of m (dats m A27 0 c) (A_eq m A27 c 11) (after_11 m A27 c) t d
/-- Window 12's buffer before the body. -/
theorem before_12 (c : Dev nD) (t : Fin cfg0.N) (d) : (dats m A27 0 c).before 12 t d = X0_12 m c t :=
  before0_12_of m (dats m A27 0 c) (A_eq m A27 c 12) (after_12 m A27 c) t d
/-- Window 13's buffer before the body. -/
theorem before_13 (c : Dev nD) (t : Fin cfg0.N) (d) : (dats m A27 0 c).before 13 t d = X0_13 m c t :=
  before0_13_of m (dats m A27 0 c) (A_eq m A27 c 13) (after_13 m A27 c) t d
/-- Window 14's buffer before the body. -/
theorem before_14 (c : Dev nD) (t : Fin cfg0.N) (d) : (dats m A27 0 c).before 14 t d = X0_14 m c t :=
  before0_14_of m (dats m A27 0 c) (A_eq m A27 c 14) (after_14 m A27 c) t d
/-- Window 15's buffer before the body. -/
theorem before_15 (c : Dev nD) (t : Fin cfg0.N) (d) : (dats m A27 0 c).before 15 t d = iblk m c 15 t :=
  before0_15_of m (dats m A27 0 c) (A_eq m A27 c 15) (after_15 m A27 c) t d
/-- Window 16's buffer before the body. -/
theorem before_16 (c : Dev nD) (t : Fin cfg0.N) (d) : (dats m A27 0 c).before 16 t d = iblk m c 16 t :=
  before0_16_of m (dats m A27 0 c) (A_eq m A27 c 16) (after_16 m A27 c) t d
/-- Window 17's buffer before the body. -/
theorem before_17 (c : Dev nD) (t : Fin cfg0.N) (d) : (dats m A27 0 c).before 17 t d = iblk m c 17 t :=
  before0_17_of m (dats m A27 0 c) (A_eq m A27 c 17) (after_17 m A27 c) t d
/-- Window 18's buffer before the body. -/
theorem before_18 (c : Dev nD) (t : Fin cfg0.N) (d) : (dats m A27 0 c).before 18 t d = iblk m c 18 t :=
  before0_18_of m (dats m A27 0 c) (A_eq m A27 c 18) (after_18 m A27 c) t d
/-- Window 19's buffer before the body. -/
theorem before_19 (c : Dev nD) (t : Fin cfg0.N) (d) : (dats m A27 0 c).before 19 t d = X0_19 m c t :=
  before0_19_of m (dats m A27 0 c) (A_eq m A27 c 19) (after_19 m A27 c) t d
/-- Window 20's buffer before the body. -/
theorem before_20 (c : Dev nD) (t : Fin cfg0.N) (d) : (dats m A27 0 c).before 20 t d = iblk m c 20 t :=
  before0_20_of m (dats m A27 0 c) (A_eq m A27 c 20) (after_20 m A27 c) t d
/-- Window 21's buffer before the body. -/
theorem before_21 (c : Dev nD) (t : Fin cfg0.N) (d) : (dats m A27 0 c).before 21 t d = iblk m c 21 t :=
  before0_21_of m (dats m A27 0 c) (A_eq m A27 c 21) (after_21 m A27 c) t d
/-- Window 22's buffer before the body. -/
theorem before_22 (c : Dev nD) (t : Fin cfg0.N) (d) : (dats m A27 0 c).before 22 t d = iblk m c 22 t :=
  before0_22_of m (dats m A27 0 c) (A_eq m A27 c 22) (after_22 m A27 c) t d
/-- Window 23's buffer before the body. -/
theorem before_23 (c : Dev nD) (t : Fin cfg0.N) (d) : (dats m A27 0 c).before 23 t d = iblk m c 23 t :=
  before0_23_of m (dats m A27 0 c) (A_eq m A27 c 23) (after_23 m A27 c) t d
/-- Window 24's buffer before the body. -/
theorem before_24 (c : Dev nD) (t : Fin cfg0.N) (d) : (dats m A27 0 c).before 24 t d = iblk m c 24 t :=
  before0_24_of m (dats m A27 0 c) (A_eq m A27 c 24) (after_24 m A27 c) t d
/-- Window 25's buffer before the body. -/
theorem before_25 (c : Dev nD) (t : Fin cfg0.N) (d) : (dats m A27 0 c).before 25 t d = iblk m c 25 t :=
  before0_25_of m (dats m A27 0 c) (A_eq m A27 c 25) (after_25 m A27 c) t d
/-- Window 26's buffer before the body. -/
theorem before_26 (c : Dev nD) (t : Fin cfg0.N) (d) : (dats m A27 0 c).before 26 t d = iblk m c 26 t :=
  before0_26_of m (dats m A27 0 c) (A_eq m A27 c 26) (after_26 m A27 c) t d

/-- The block the body leaves in the output's staging buffer at point `t`, when the three clipped inputs' buffers hold `d0`, `d1`, `d2`
    past their arrays' ends. -/
def outAt (c : Dev nD) (t : Fin cfg0.N) (d0 : Vec F S19x8x1024 .i32) (d1 : Vec F S8x1024x128 .f32) (d2 : Vec F S8x1024x128 .f32) : Vec F S8x1024x128 .f32 :=
  outBlk (in0 m c t d0) (in1 m c t d1) (in2 m c t d2) (iblk m c 3 t) (iblk m c 4 t) (iblk m c 5 t) (iblk m c 6 t) (iblk m c 7 t) (iblk m c 8 t) (iblk m c 9 t) (iblk m c 10 t) (iblk m c 11 t) (X0_12 m c t) (X0_13 m c t) (X0_14 m c t) (iblk m c 15 t) (iblk m c 16 t) (iblk m c 17 t) (iblk m c 18 t) (X0_19 m c t) (iblk m c 20 t) (iblk m c 21 t) (iblk m c 22 t) (iblk m c 23 t) (iblk m c 24 t) (iblk m c 25 t) (iblk m c 26 t)

/-- The body at point `t` on what the pipeline calls it with, for any continuation. -/
theorem body_at (c : Dev nD) (t : Fin cfg0.N) (d0 : Vec F S19x8x1024 .i32) (d1 : Vec F S8x1024x128 .f32) (d2 : Vec F S8x1024x128 .f32) (K : PUnit → sProp 𝕄) :
    iprop((owns (c : Thread nD τ) (st0_0 t) fullShare (in0 m c t d0) ∗ owns (c : Thread nD τ) (st0_1 t) fullShare (in1 m c t d1) ∗ owns (c : Thread nD τ) (st0_2 t) fullShare (in2 m c t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (X0_12 m c t) ∗ owns (c : Thread nD τ) (st0_13 t) fullShare (X0_13 m c t) ∗ owns (c : Thread nD τ) (st0_14 t) fullShare (X0_14 m c t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (X0_19 m c t) ∗ owns (c : Thread nD τ) (st0_20 t) fullShare (iblk m c 20 t) ∗ owns (c : Thread nD τ) (st0_21 t) fullShare (iblk m c 21 t) ∗ owns (c : Thread nD τ) (st0_22 t) fullShare (iblk m c 22 t) ∗ owns (c : Thread nD τ) (st0_23 t) fullShare (iblk m c 23 t) ∗ owns (c : Thread nD τ) (st0_24 t) fullShare (iblk m c 24 t) ∗ owns (c : Thread nD τ) (st0_25 t) fullShare (iblk m c 25 t) ∗ owns (c : Thread nD τ) (st0_26 t) fullShare (iblk m c 26 t) ∗ (∃ d, owns (c : Thread nD τ) (st0_27 t) fullShare d))
        ∗ (iprop(owns (c : Thread nD τ) (st0_0 t) fullShare (in0 m c t d0) ∗ owns (c : Thread nD τ) (st0_1 t) fullShare (in1 m c t d1) ∗ owns (c : Thread nD τ) (st0_2 t) fullShare (in2 m c t d2) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (X0_12 m c t) ∗ owns (c : Thread nD τ) (st0_13 t) fullShare (X0_13 m c t) ∗ owns (c : Thread nD τ) (st0_14 t) fullShare (X0_14 m c t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (X0_19 m c t) ∗ owns (c : Thread nD τ) (st0_20 t) fullShare (iblk m c 20 t) ∗ owns (c : Thread nD τ) (st0_21 t) fullShare (iblk m c 21 t) ∗ owns (c : Thread nD τ) (st0_22 t) fullShare (iblk m c 22 t) ∗ owns (c : Thread nD τ) (st0_23 t) fullShare (iblk m c 23 t) ∗ owns (c : Thread nD τ) (st0_24 t) fullShare (iblk m c 24 t) ∗ owns (c : Thread nD τ) (st0_25 t) fullShare (iblk m c 25 t) ∗ owns (c : Thread nD τ) (st0_26 t) fullShare (iblk m c 26 t) ∗ owns (c : Thread nD τ) (st0_27 t) fullShare (outAt m c t d0 d1 d2)) -∗ K ⟨⟩))
      ⊢ wp frame (wpE (defs₀ (F := F)) Variants.none c none) Set.univ (bodyAt0 t) K :=
  kernelRun c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (in0 m c t d0) (in1 m c t d1) (in2 m c t d2) (iblk m c 3 t) (iblk m c 4 t) (iblk m c 5 t) (iblk m c 6 t) (iblk m c 7 t) (iblk m c 8 t) (iblk m c 9 t) (iblk m c 10 t) (iblk m c 11 t) (X0_12 m c t) (X0_13 m c t) (X0_14 m c t) (iblk m c 15 t) (iblk m c 16 t) (iblk m c 17 t) (iblk m c 18 t) (X0_19 m c t) (iblk m c 20 t) (iblk m c 21 t) (iblk m c 22 t) (iblk m c 23 t) (iblk m c 24 t) (iblk m c 25 t) (iblk m c 26 t) K

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The output window forgotten: the frame reads nothing of what the kernel leaves in it. -/
def forgets0 : Fin 28 → Bool := fun w => w == 27

set_option maxHeartbeats 4000000 in
/-- With the output forgotten: what the body is called with at point `t`, and what it returns. -/
def loosePre (c : Dev nD) (t : Fin cfg0.N) : sProp 𝕄 :=
  iprop((dats m A27 0 c).Φ t.castSucc ∗ (dats m A27 0 c).owesAt () t.castSucc
    ∗ (∃ d, owns (c : Thread nD τ) (st0_0 t) fullShare ((dats m A27 0 c).before 0 t d)) ∗ (∃ d, owns (c : Thread nD τ) (st0_1 t) fullShare ((dats m A27 0 c).before 1 t d)) ∗ (∃ d, owns (c : Thread nD τ) (st0_2 t) fullShare ((dats m A27 0 c).before 2 t d)) ∗ (∃ d, owns (c : Thread nD τ) (st0_3 t) fullShare ((dats m A27 0 c).before 3 t d)) ∗ (∃ d, owns (c : Thread nD τ) (st0_4 t) fullShare ((dats m A27 0 c).before 4 t d)) ∗ (∃ d, owns (c : Thread nD τ) (st0_5 t) fullShare ((dats m A27 0 c).before 5 t d)) ∗ (∃ d, owns (c : Thread nD τ) (st0_6 t) fullShare ((dats m A27 0 c).before 6 t d)) ∗ (∃ d, owns (c : Thread nD τ) (st0_7 t) fullShare ((dats m A27 0 c).before 7 t d)) ∗ (∃ d, owns (c : Thread nD τ) (st0_8 t) fullShare ((dats m A27 0 c).before 8 t d)) ∗ (∃ d, owns (c : Thread nD τ) (st0_9 t) fullShare ((dats m A27 0 c).before 9 t d)) ∗ (∃ d, owns (c : Thread nD τ) (st0_10 t) fullShare ((dats m A27 0 c).before 10 t d)) ∗ (∃ d, owns (c : Thread nD τ) (st0_11 t) fullShare ((dats m A27 0 c).before 11 t d)) ∗ (∃ d, owns (c : Thread nD τ) (st0_12 t) fullShare ((dats m A27 0 c).before 12 t d)) ∗ (∃ d, owns (c : Thread nD τ) (st0_13 t) fullShare ((dats m A27 0 c).before 13 t d)) ∗ (∃ d, owns (c : Thread nD τ) (st0_14 t) fullShare ((dats m A27 0 c).before 14 t d)) ∗ (∃ d, owns (c : Thread nD τ) (st0_15 t) fullShare ((dats m A27 0 c).before 15 t d)) ∗ (∃ d, owns (c : Thread nD τ) (st0_16 t) fullShare ((dats m A27 0 c).before 16 t d)) ∗ (∃ d, owns (c : Thread nD τ) (st0_17 t) fullShare ((dats m A27 0 c).before 17 t d)) ∗ (∃ d, owns (c : Thread nD τ) (st0_18 t) fullShare ((dats m A27 0 c).before 18 t d)) ∗ (∃ d, owns (c : Thread nD τ) (st0_19 t) fullShare ((dats m A27 0 c).before 19 t d)) ∗ (∃ d, owns (c : Thread nD τ) (st0_20 t) fullShare ((dats m A27 0 c).before 20 t d)) ∗ (∃ d, owns (c : Thread nD τ) (st0_21 t) fullShare ((dats m A27 0 c).before 21 t d)) ∗ (∃ d, owns (c : Thread nD τ) (st0_22 t) fullShare ((dats m A27 0 c).before 22 t d)) ∗ (∃ d, owns (c : Thread nD τ) (st0_23 t) fullShare ((dats m A27 0 c).before 23 t d)) ∗ (∃ d, owns (c : Thread nD τ) (st0_24 t) fullShare ((dats m A27 0 c).before 24 t d)) ∗ (∃ d, owns (c : Thread nD τ) (st0_25 t) fullShare ((dats m A27 0 c).before 25 t d)) ∗ (∃ d, owns (c : Thread nD τ) (st0_26 t) fullShare ((dats m A27 0 c).before 26 t d)) ∗ (∃ d, owns (c : Thread nD τ) (st0_27 t) fullShare d))
set_option maxHeartbeats 4000000 in
@[inherit_doc loosePre]
def loosePost (c : Dev nD) (t : Fin cfg0.N) : sProp 𝕄 :=
  iprop((dats m A27 0 c).Φ t.succ ∗ (dats m A27 0 c).owesAt () t.succ
    ∗ (∃ d, owns (c : Thread nD τ) (st0_0 t) fullShare ((cfg0.win 0).fill (cfg0.grid.coords t) d ((cfg0.win 0).cut (cfg0.grid.coords t) ((dats m A27 0 c).after 0 t)))) ∗ (∃ d, owns (c : Thread nD τ) (st0_1 t) fullShare ((cfg0.win 1).fill (cfg0.grid.coords t) d ((cfg0.win 1).cut (cfg0.grid.coords t) ((dats m A27 0 c).after 1 t)))) ∗ (∃ d, owns (c : Thread nD τ) (st0_2 t) fullShare ((cfg0.win 2).fill (cfg0.grid.coords t) d ((cfg0.win 2).cut (cfg0.grid.coords t) ((dats m A27 0 c).after 2 t)))) ∗ owns (c : Thread nD τ) (st0_3 t) fullShare ((dats m A27 0 c).after 3 t) ∗ owns (c : Thread nD τ) (st0_4 t) fullShare ((dats m A27 0 c).after 4 t) ∗ owns (c : Thread nD τ) (st0_5 t) fullShare ((dats m A27 0 c).after 5 t) ∗ owns (c : Thread nD τ) (st0_6 t) fullShare ((dats m A27 0 c).after 6 t) ∗ owns (c : Thread nD τ) (st0_7 t) fullShare ((dats m A27 0 c).after 7 t) ∗ owns (c : Thread nD τ) (st0_8 t) fullShare ((dats m A27 0 c).after 8 t) ∗ owns (c : Thread nD τ) (st0_9 t) fullShare ((dats m A27 0 c).after 9 t) ∗ owns (c : Thread nD τ) (st0_10 t) fullShare ((dats m A27 0 c).after 10 t) ∗ owns (c : Thread nD τ) (st0_11 t) fullShare ((dats m A27 0 c).after 11 t) ∗ (∃ d, owns (c : Thread nD τ) (st0_12 t) fullShare ((cfg0.win 12).fill (cfg0.grid.coords t) d ((cfg0.win 12).cut (cfg0.grid.coords t) ((dats m A27 0 c).after 12 t)))) ∗ (∃ d, owns (c : Thread nD τ) (st0_13 t) fullShare ((cfg0.win 13).fill (cfg0.grid.coords t) d ((cfg0.win 13).cut (cfg0.grid.coords t) ((dats m A27 0 c).after 13 t)))) ∗ (∃ d, owns (c : Thread nD τ) (st0_14 t) fullShare ((cfg0.win 14).fill (cfg0.grid.coords t) d ((cfg0.win 14).cut (cfg0.grid.coords t) ((dats m A27 0 c).after 14 t)))) ∗ owns (c : Thread nD τ) (st0_15 t) fullShare ((dats m A27 0 c).after 15 t) ∗ owns (c : Thread nD τ) (st0_16 t) fullShare ((dats m A27 0 c).after 16 t) ∗ owns (c : Thread nD τ) (st0_17 t) fullShare ((dats m A27 0 c).after 17 t) ∗ owns (c : Thread nD τ) (st0_18 t) fullShare ((dats m A27 0 c).after 18 t) ∗ (∃ d, owns (c : Thread nD τ) (st0_19 t) fullShare ((cfg0.win 19).fill (cfg0.grid.coords t) d ((cfg0.win 19).cut (cfg0.grid.coords t) ((dats m A27 0 c).after 19 t)))) ∗ owns (c : Thread nD τ) (st0_20 t) fullShare ((dats m A27 0 c).after 20 t) ∗ owns (c : Thread nD τ) (st0_21 t) fullShare ((dats m A27 0 c).after 21 t) ∗ owns (c : Thread nD τ) (st0_22 t) fullShare ((dats m A27 0 c).after 22 t) ∗ owns (c : Thread nD τ) (st0_23 t) fullShare ((dats m A27 0 c).after 23 t) ∗ owns (c : Thread nD τ) (st0_24 t) fullShare ((dats m A27 0 c).after 24 t) ∗ owns (c : Thread nD τ) (st0_25 t) fullShare ((dats m A27 0 c).after 25 t) ∗ owns (c : Thread nD τ) (st0_26 t) fullShare ((dats m A27 0 c).after 26 t) ∗ (∃ d, owns (c : Thread nD τ) (st0_27 t) fullShare d))

set_option maxHeartbeats 8000000 in
/-- With the output forgotten: the body's triple at the point. -/
theorem loose_sound (c : Dev nD) (t : Fin cfg0.N) :
    loosePre m A27 c t ⊢ wp frame (wpE (defs₀ (F := F)) Variants.none c none) Set.univ (bodyAt0 t) (fun _ => loosePost m A27 c t) := by
  unfold loosePre loosePost
  rw [show (dats m A27 0 c).Φ t.succ = (dats m A27 0 c).Φ t.castSucc from rfl,
    show (dats m A27 0 c).owesAt () t.succ = (dats m A27 0 c).owesAt () t.castSucc from rfl]
  simp only [before_0, after_0, before_1, after_1, before_2, after_2, before_3, after_3, before_4, after_4, before_5, after_5, before_6, after_6, before_7, after_7, before_8, after_8, before_9, after_9, before_10, after_10, before_11, after_11, before_12, after_12, before_13, after_13, before_14, after_14, before_15, after_15, before_16, after_16, before_17, after_17, before_18, after_18, before_19, after_19, before_20, after_20, before_21, after_21, before_22, after_22, before_23, after_23, before_24, after_24, before_25, after_25, before_26, after_26, after_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (body_at m c t d0 d1 d2 _)
  isplitl [H0 H1 H2 H3 H4 H5 H6 H7 H8 H9 H10 H11 H12 H13 H14 H15 H16 H17 H18 H19 H20 H21 H22 H23 H24 H25 H26 H27]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]
  · iexists d0
    rw [show (cfg0.win 0).cut (cfg0.grid.coords t) (in0 m c t pad0) = iblk m c 0 t from (cfg0.win 0).cut_fill _ _ _]
    iexact H0
  isplitl [H1]
  · iexists d1
    rw [show (cfg0.win 1).cut (cfg0.grid.coords t) (in1 m c t pad1) = iblk m c 1 t from (cfg0.win 1).cut_fill _ _ _]
    iexact H1
  isplitl [H2]
  · iexists d2
    rw [show (cfg0.win 2).cut (cfg0.grid.coords t) (in2 m c t pad2) = iblk m c 2 t from (cfg0.win 2).cut_fill _ _ _]
    iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists X0_12 m c t
    rw [show (cfg0.win 12).fill (cfg0.grid.coords t) (X0_12 m c t) ((cfg0.win 12).cut (cfg0.grid.coords t) (X0_12 m c t)) = X0_12 m c t from (cfg0.win 12).fill_cut _ _]
    iexact H12
  isplitl [H13]
  · iexists X0_13 m c t
    rw [show (cfg0.win 13).fill (cfg0.grid.coords t) (X0_13 m c t) ((cfg0.win 13).cut (cfg0.grid.coords t) (X0_13 m c t)) = X0_13 m c t from (cfg0.win 13).fill_cut _ _]
    iexact H13
  isplitl [H14]
  · iexists X0_14 m c t
    rw [show (cfg0.win 14).fill (cfg0.grid.coords t) (X0_14 m c t) ((cfg0.win 14).cut (cfg0.grid.coords t) (X0_14 m c t)) = X0_14 m c t from (cfg0.win 14).fill_cut _ _]
    iexact H14
  isplitl [H15]; · iexact H15
  isplitl [H16]; · iexact H16
  isplitl [H17]; · iexact H17
  isplitl [H18]; · iexact H18
  isplitl [H19]
  · iexists X0_19 m c t
    rw [show (cfg0.win 19).fill (cfg0.grid.coords t) (X0_19 m c t) ((cfg0.win 19).cut (cfg0.grid.coords t) (X0_19 m c t)) = X0_19 m c t from (cfg0.win 19).fill_cut _ _]
    iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexists _; iexact H27

set_option maxHeartbeats 8000000 in
/-- The library's body obligation with the output forgotten. -/
theorem body_loose (c : Dev nD) :
    BodyObligationLoose (dats m A27 0 c) (defs₀ (F := F)) Variants.none () Set.univ forgets0 := fun t => by
  rw [bigSep_W0, bigSep_W0, defs₀_row]
  exact triple_restated (loose_sound m A27 c t) rfl .rfl fun _ => .rfl

/-! ## The launch -/

/-- The one buffer the operations after the region write. -/
def T0 : Finset (Ref sig .tc) := {main_v25}

-- the launch theorem's implicit arguments are found by unifying its conclusion with this statement, which unifies only
-- when unification may unfold plain definitions in a metavariable's type
set_option backward.isDefEq.respectTransparency.types false in
/-- From any memory with zero counters every weakly fair execution of @main terminates; each staged input array and every buffer
    that neither a window nor a later operation writes ends as the region found it, and every counter ends at zero. -/
theorem run_frame :
    θ_run defs (onTc (τ := τ) (main (F := F))) (s₀ m ρ)
      (fun r => Pipeline.RDat.FramePostR (cfgs 0) (fun c => (dats m A27 0 c).toRForget forgets0) T0 (fun c b => V0 m c (Proc.devRef .tc b)) r ∧ r.2.sem = fun _ => 0) :=
  Pipeline.θ_run_frame_around_T_forget (Q' := _) cfgs (dats m A27) (0 : Fin 1) launch0 defs₀ Variants.none forgets0 T0 m ρ main
    (hbody := body_loose m A27) (hshare := fun c => (dats m A27 0 c).share_full fun _ => rfl)
    (howed := fun _ _ => rfl) (V₀ := V0 m) (opss := [hostOps1]) (hsub := sfx_sub) (hfresh := sfx_fresh) (hkeep := sfx_keeps)
    (hT := fun ops hops op hop b hb => by
      simp only [List.mem_singleton] at hops
      subst hops
      simp only [hostOps1, List.mem_singleton] at hop
      subst hop
      simp only [StableHlo.unary_writes, Finset.mem_singleton] at hb
      exact Finset.mem_singleton.mpr (by
        by_contra hne
        exact StableHlo.devRef_ne_of_ne hne hb))
    (hmain := hmain m Variants.none) (hA := A_eq m A27) (hΦ := fun _ _ => rfl) (hQ' := fun _ h => h)

variable {m ρ A27}

set_option maxHeartbeats 4000000 in
/-- After the run every argument array holds what it held at launch. -/
theorem args_kept {r : PUnit × MemSt nD τ sig (Elt F)}
    (h : Pipeline.RDat.FramePostR (cfgs 0) (fun c => (dats m A27 0 c).toRForget forgets0) T0 (fun c b => V0 m c (Proc.devRef .tc b)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    (h.arr_in c 3 rfl).trans (V_main_arg3 m c),
    ((h c).2 main_arg4 (Finset.mem_sdiff.mpr ⟨Pipeline.mem_restRefs_of main_arg4 (by decide) (by decide), by decide⟩)).trans (V_main_arg4 m c),
    (h.arr_in c 4 rfl).trans (V_main_arg5 m c),
    ((h c).2 main_arg6 (Finset.mem_sdiff.mpr ⟨Pipeline.mem_restRefs_of main_arg6 (by decide) (by decide), by decide⟩)).trans (V_main_arg6 m c),
    (h.arr_in c 5 rfl).trans (V_main_arg7 m c),
    ((h c).2 main_arg8 (Finset.mem_sdiff.mpr ⟨Pipeline.mem_restRefs_of main_arg8 (by decide) (by decide), by decide⟩)).trans (V_main_arg8 m c),
    (h.arr_in c 20 rfl).trans (V_main_arg9 m c),
    ((h c).2 main_arg10 (Finset.mem_sdiff.mpr ⟨Pipeline.mem_restRefs_of main_arg10 (by decide) (by decide), by decide⟩)).trans (V_main_arg10 m c),
    (h.arr_in c 21 rfl).trans (V_main_arg11 m c),
    ((h c).2 main_arg12 (Finset.mem_sdiff.mpr ⟨Pipeline.mem_restRefs_of main_arg12 (by decide) (by decide), by decide⟩)).trans (V_main_arg12 m c),
    (h.arr_in c 12 rfl).trans (V_main_arg13 m c),
    (h.arr_in c 13 rfl).trans (V_main_arg14 m c),
    (h.arr_in c 14 rfl).trans (V_main_arg15 m c),
    (h.arr_in c 15 rfl).trans (V_main_arg16 m c),
    (h.arr_in c 18 rfl).trans (V_main_arg17 m c),
    (h.arr_in c 16 rfl).trans (V_main_arg18 m c),
    (h.arr_in c 17 rfl).trans (V_main_arg19 m c),
    (h.arr_in c 19 rfl).trans (V_main_arg20 m c)⟩

variable (m A27)

set_option maxHeartbeats 4000000 in
/-- With the output determined on the rows inside the array: what the body is called with at point `t`, and what it returns. -/
def exactPre (c : Dev nD) (t : Fin cfg0.N) : sProp 𝕄 :=
  iprop((dats m A27 0 c).Φ t.castSucc ∗ (dats m A27 0 c).owesAt () t.castSucc
    ∗ (∃ d, owns (c : Thread nD τ) (st0_0 t) fullShare ((dats m A27 0 c).before 0 t d)) ∗ (∃ d, owns (c : Thread nD τ) (st0_1 t) fullShare ((dats m A27 0 c).before 1 t d)) ∗ (∃ d, owns (c : Thread nD τ) (st0_2 t) fullShare ((dats m A27 0 c).before 2 t d)) ∗ (∃ d, owns (c : Thread nD τ) (st0_3 t) fullShare ((dats m A27 0 c).before 3 t d)) ∗ (∃ d, owns (c : Thread nD τ) (st0_4 t) fullShare ((dats m A27 0 c).before 4 t d)) ∗ (∃ d, owns (c : Thread nD τ) (st0_5 t) fullShare ((dats m A27 0 c).before 5 t d)) ∗ (∃ d, owns (c : Thread nD τ) (st0_6 t) fullShare ((dats m A27 0 c).before 6 t d)) ∗ (∃ d, owns (c : Thread nD τ) (st0_7 t) fullShare ((dats m A27 0 c).before 7 t d)) ∗ (∃ d, owns (c : Thread nD τ) (st0_8 t) fullShare ((dats m A27 0 c).before 8 t d)) ∗ (∃ d, owns (c : Thread nD τ) (st0_9 t) fullShare ((dats m A27 0 c).before 9 t d)) ∗ (∃ d, owns (c : Thread nD τ) (st0_10 t) fullShare ((dats m A27 0 c).before 10 t d)) ∗ (∃ d, owns (c : Thread nD τ) (st0_11 t) fullShare ((dats m A27 0 c).before 11 t d)) ∗ (∃ d, owns (c : Thread nD τ) (st0_12 t) fullShare ((dats m A27 0 c).before 12 t d)) ∗ (∃ d, owns (c : Thread nD τ) (st0_13 t) fullShare ((dats m A27 0 c).before 13 t d)) ∗ (∃ d, owns (c : Thread nD τ) (st0_14 t) fullShare ((dats m A27 0 c).before 14 t d)) ∗ (∃ d, owns (c : Thread nD τ) (st0_15 t) fullShare ((dats m A27 0 c).before 15 t d)) ∗ (∃ d, owns (c : Thread nD τ) (st0_16 t) fullShare ((dats m A27 0 c).before 16 t d)) ∗ (∃ d, owns (c : Thread nD τ) (st0_17 t) fullShare ((dats m A27 0 c).before 17 t d)) ∗ (∃ d, owns (c : Thread nD τ) (st0_18 t) fullShare ((dats m A27 0 c).before 18 t d)) ∗ (∃ d, owns (c : Thread nD τ) (st0_19 t) fullShare ((dats m A27 0 c).before 19 t d)) ∗ (∃ d, owns (c : Thread nD τ) (st0_20 t) fullShare ((dats m A27 0 c).before 20 t d)) ∗ (∃ d, owns (c : Thread nD τ) (st0_21 t) fullShare ((dats m A27 0 c).before 21 t d)) ∗ (∃ d, owns (c : Thread nD τ) (st0_22 t) fullShare ((dats m A27 0 c).before 22 t d)) ∗ (∃ d, owns (c : Thread nD τ) (st0_23 t) fullShare ((dats m A27 0 c).before 23 t d)) ∗ (∃ d, owns (c : Thread nD τ) (st0_24 t) fullShare ((dats m A27 0 c).before 24 t d)) ∗ (∃ d, owns (c : Thread nD τ) (st0_25 t) fullShare ((dats m A27 0 c).before 25 t d)) ∗ (∃ d, owns (c : Thread nD τ) (st0_26 t) fullShare ((dats m A27 0 c).before 26 t d)) ∗ (∃ d, owns (c : Thread nD τ) (st0_27 t) fullShare ((dats m A27 0 c).before 27 t d)))
set_option maxHeartbeats 4000000 in
@[inherit_doc exactPre]
def exactPost (c : Dev nD) (t : Fin cfg0.N) : sProp 𝕄 :=
  iprop((dats m A27 0 c).Φ t.succ ∗ (dats m A27 0 c).owesAt () t.succ
    ∗ (∃ d, owns (c : Thread nD τ) (st0_0 t) fullShare ((cfg0.win 0).fill (cfg0.grid.coords t) d ((cfg0.win 0).cut (cfg0.grid.coords t) ((dats m A27 0 c).after 0 t)))) ∗ (∃ d, owns (c : Thread nD τ) (st0_1 t) fullShare ((cfg0.win 1).fill (cfg0.grid.coords t) d ((cfg0.win 1).cut (cfg0.grid.coords t) ((dats m A27 0 c).after 1 t)))) ∗ (∃ d, owns (c : Thread nD τ) (st0_2 t) fullShare ((cfg0.win 2).fill (cfg0.grid.coords t) d ((cfg0.win 2).cut (cfg0.grid.coords t) ((dats m A27 0 c).after 2 t)))) ∗ owns (c : Thread nD τ) (st0_3 t) fullShare ((dats m A27 0 c).after 3 t) ∗ owns (c : Thread nD τ) (st0_4 t) fullShare ((dats m A27 0 c).after 4 t) ∗ owns (c : Thread nD τ) (st0_5 t) fullShare ((dats m A27 0 c).after 5 t) ∗ owns (c : Thread nD τ) (st0_6 t) fullShare ((dats m A27 0 c).after 6 t) ∗ owns (c : Thread nD τ) (st0_7 t) fullShare ((dats m A27 0 c).after 7 t) ∗ owns (c : Thread nD τ) (st0_8 t) fullShare ((dats m A27 0 c).after 8 t) ∗ owns (c : Thread nD τ) (st0_9 t) fullShare ((dats m A27 0 c).after 9 t) ∗ owns (c : Thread nD τ) (st0_10 t) fullShare ((dats m A27 0 c).after 10 t) ∗ owns (c : Thread nD τ) (st0_11 t) fullShare ((dats m A27 0 c).after 11 t) ∗ (∃ d, owns (c : Thread nD τ) (st0_12 t) fullShare ((cfg0.win 12).fill (cfg0.grid.coords t) d ((cfg0.win 12).cut (cfg0.grid.coords t) ((dats m A27 0 c).after 12 t)))) ∗ (∃ d, owns (c : Thread nD τ) (st0_13 t) fullShare ((cfg0.win 13).fill (cfg0.grid.coords t) d ((cfg0.win 13).cut (cfg0.grid.coords t) ((dats m A27 0 c).after 13 t)))) ∗ (∃ d, owns (c : Thread nD τ) (st0_14 t) fullShare ((cfg0.win 14).fill (cfg0.grid.coords t) d ((cfg0.win 14).cut (cfg0.grid.coords t) ((dats m A27 0 c).after 14 t)))) ∗ owns (c : Thread nD τ) (st0_15 t) fullShare ((dats m A27 0 c).after 15 t) ∗ owns (c : Thread nD τ) (st0_16 t) fullShare ((dats m A27 0 c).after 16 t) ∗ owns (c : Thread nD τ) (st0_17 t) fullShare ((dats m A27 0 c).after 17 t) ∗ owns (c : Thread nD τ) (st0_18 t) fullShare ((dats m A27 0 c).after 18 t) ∗ (∃ d, owns (c : Thread nD τ) (st0_19 t) fullShare ((cfg0.win 19).fill (cfg0.grid.coords t) d ((cfg0.win 19).cut (cfg0.grid.coords t) ((dats m A27 0 c).after 19 t)))) ∗ owns (c : Thread nD τ) (st0_20 t) fullShare ((dats m A27 0 c).after 20 t) ∗ owns (c : Thread nD τ) (st0_21 t) fullShare ((dats m A27 0 c).after 21 t) ∗ owns (c : Thread nD τ) (st0_22 t) fullShare ((dats m A27 0 c).after 22 t) ∗ owns (c : Thread nD τ) (st0_23 t) fullShare ((dats m A27 0 c).after 23 t) ∗ owns (c : Thread nD τ) (st0_24 t) fullShare ((dats m A27 0 c).after 24 t) ∗ owns (c : Thread nD τ) (st0_25 t) fullShare ((dats m A27 0 c).after 25 t) ∗ owns (c : Thread nD τ) (st0_26 t) fullShare ((dats m A27 0 c).after 26 t) ∗ (∃ d, owns (c : Thread nD τ) (st0_27 t) fullShare ((cfg0.win 27).fill (cfg0.grid.coords t) d ((cfg0.win 27).cut (cfg0.grid.coords t) ((dats m A27 0 c).after 27 t)))))

set_option maxHeartbeats 8000000 in
/-- With the output determined on the rows inside the array: the body's triple at the point. -/
theorem exact_sound
    (h27 : ∀ c t d0 d1 d2, (cfg0.win 27).cut (cfg0.grid.coords t) (outAt m c t d0 d1 d2) = (cfg0.win 27).cut (cfg0.grid.coords t) (A27 c t))
    (c : Dev nD) (t : Fin cfg0.N) :
    exactPre m A27 c t ⊢ wp frame (wpE (defs₀ (F := F)) Variants.none c none) Set.univ (bodyAt0 t) (fun _ => exactPost m A27 c t) := by
  unfold exactPre exactPost
  rw [show (dats m A27 0 c).Φ t.succ = (dats m A27 0 c).Φ t.castSucc from rfl,
    show (dats m A27 0 c).owesAt () t.succ = (dats m A27 0 c).owesAt () t.castSucc from rfl]
  simp only [before_0, after_0, before_1, after_1, before_2, after_2, before_3, after_3, before_4, after_4, before_5, after_5, before_6, after_6, before_7, after_7, before_8, after_8, before_9, after_9, before_10, after_10, before_11, after_11, before_12, after_12, before_13, after_13, before_14, after_14, before_15, after_15, before_16, after_16, before_17, after_17, before_18, after_18, before_19, after_19, before_20, after_20, before_21, after_21, before_22, after_22, before_23, after_23, before_24, after_24, before_25, after_25, before_26, after_26, after_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (body_at m c t d0 d1 d2 _)
  isplitl [H0 H1 H2 H3 H4 H5 H6 H7 H8 H9 H10 H11 H12 H13 H14 H15 H16 H17 H18 H19 H20 H21 H22 H23 H24 H25 H26 H27]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]
  · iexists d0
    rw [show (cfg0.win 0).cut (cfg0.grid.coords t) (in0 m c t pad0) = iblk m c 0 t from (cfg0.win 0).cut_fill _ _ _]
    iexact H0
  isplitl [H1]
  · iexists d1
    rw [show (cfg0.win 1).cut (cfg0.grid.coords t) (in1 m c t pad1) = iblk m c 1 t from (cfg0.win 1).cut_fill _ _ _]
    iexact H1
  isplitl [H2]
  · iexists d2
    rw [show (cfg0.win 2).cut (cfg0.grid.coords t) (in2 m c t pad2) = iblk m c 2 t from (cfg0.win 2).cut_fill _ _ _]
    iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists X0_12 m c t
    rw [show (cfg0.win 12).fill (cfg0.grid.coords t) (X0_12 m c t) ((cfg0.win 12).cut (cfg0.grid.coords t) (X0_12 m c t)) = X0_12 m c t from (cfg0.win 12).fill_cut _ _]
    iexact H12
  isplitl [H13]
  · iexists X0_13 m c t
    rw [show (cfg0.win 13).fill (cfg0.grid.coords t) (X0_13 m c t) ((cfg0.win 13).cut (cfg0.grid.coords t) (X0_13 m c t)) = X0_13 m c t from (cfg0.win 13).fill_cut _ _]
    iexact H13
  isplitl [H14]
  · iexists X0_14 m c t
    rw [show (cfg0.win 14).fill (cfg0.grid.coords t) (X0_14 m c t) ((cfg0.win 14).cut (cfg0.grid.coords t) (X0_14 m c t)) = X0_14 m c t from (cfg0.win 14).fill_cut _ _]
    iexact H14
  isplitl [H15]; · iexact H15
  isplitl [H16]; · iexact H16
  isplitl [H17]; · iexact H17
  isplitl [H18]; · iexact H18
  isplitl [H19]
  · iexists X0_19 m c t
    rw [show (cfg0.win 19).fill (cfg0.grid.coords t) (X0_19 m c t) ((cfg0.win 19).cut (cfg0.grid.coords t) (X0_19 m c t)) = X0_19 m c t from (cfg0.win 19).fill_cut _ _]
    iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexists outAt m c t d0 d1 d2
  rw [← h27 c t d0 d1 d2, show (cfg0.win 27).fill (cfg0.grid.coords t) (outAt m c t d0 d1 d2) ((cfg0.win 27).cut (cfg0.grid.coords t) (outAt m c t d0 d1 d2)) = outAt m c t d0 d1 d2 from (cfg0.win 27).fill_cut _ _]
  iexact H27

set_option maxHeartbeats 8000000 in
/-- The library's body obligation with the output determined on the rows inside the array. -/
theorem body_exact
    (h27 : ∀ c t d0 d1 d2, (cfg0.win 27).cut (cfg0.grid.coords t) (outAt m c t d0 d1 d2) = (cfg0.win 27).cut (cfg0.grid.coords t) (A27 c t))
    (c : Dev nD) : BodyObligationLoose (dats m A27 0 c) (defs₀ (F := F)) Variants.none () Set.univ := fun t => by
  rw [bigSep_W0, bigSep_W0, defs₀_row]
  exact triple_restated (exact_sound m A27 h27 c t) rfl .rfl fun _ => .rfl

set_option backward.isDefEq.respectTransparency.types false in
/-- The run with the output determined on the rows inside the array: every array ends at what the write-backs make of it, and
    every other buffer at what the operations after the region leave. -/
theorem run_exact
    (h27 : ∀ c t d0 d1 d2, (cfg0.win 27).cut (cfg0.grid.coords t) (outAt m c t d0 d1 d2) = (cfg0.win 27).cut (cfg0.grid.coords t) (A27 c t)) :
    θ_run defs (onTc (τ := τ) (main (F := F))) (s₀ m ρ)
      (Pipeline.FramePost cfgs (dats m A27) 0 (Pipeline.afterTail₀ cfgs (dats m A27) 0 (V0 m) [hostOps1])) :=
  Pipeline.θ_run_frame_around cfgs (dats m A27) (0 : Fin 1) launch0 defs₀ Variants.none m ρ main
    (hbody := body_exact m A27 h27) (hshare := fun c => (dats m A27 0 c).share_full fun _ => rfl)
    (howed := fun _ _ => rfl) (V₀ := V0 m) (opss := [hostOps1]) (hsub := sfx_sub) (hfresh := sfx_fresh) (hkeep := sfx_keeps)
    (hmain := hmain m Variants.none) (hA := A_eq m A27) (hΦ := fun _ _ => rfl)

end Cert.KernelIdeal.Hand

end
-- ==== Proof.Entry.lean ====
module

public import proofs.«01_k».proof.Proof.IdealFrame

/-! The arrays the region finds that the host operations before it compute. -/

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]
variable (m : (ℓ : Loc nD τ sig) → Buf (Elt F) ℓ)

/-- The first poke tokens, time first. -/
theorem V_v1 (c : Dev nD) : V m c main_v1 = transpose S50x1024x128 [1, 0, 2] (m ((c : Thread nD τ).loc main_arg1)) transposes_S1024x50x128_S50x1024x128_1_0_2 := by
  show StableHlo.after (List.flatten [hostOps0]) _ (Proc.devRef .tc main_v1) = _
  simp only [List.flatten_cons, List.flatten_nil, List.append_nil, hostOps0]
  after_results_simp
  try rfl

/-- The second poke tokens, time first. -/
theorem V_v2 (c : Dev nD) : V m c main_v2 = transpose S50x1024x128 [1, 0, 2] (m ((c : Thread nD τ).loc main_arg2)) transposes_S1024x50x128_S50x1024x128_1_0_2 := by
  show StableHlo.after (List.flatten [hostOps0]) _ (Proc.devRef .tc main_v2) = _
  simp only [List.flatten_cons, List.flatten_nil, List.append_nil, hostOps0]
  after_results_simp
  try rfl

/-- The edges, column first. -/
theorem V_v3 (c : Dev nD) : V m c main_v3 = transpose S19x50x1024 [2, 1, 0] (m ((c : Thread nD τ).loc main_arg0)) transposes_S1024x50x19_S19x50x1024_2_1_0 := by
  show StableHlo.after (List.flatten [hostOps0]) _ (Proc.devRef .tc main_v3) = _
  simp only [List.flatten_cons, List.flatten_nil, List.append_nil, hostOps0]
  after_results_simp
  try rfl

/-- The spreading matrix. -/
theorem V_cst_0 (c : Dev nD) : V m c main_cst_0 = fun i => FloatOps.ofBits .bf16 (lit1 (S152x1024.rowMajor i)) := by
  show StableHlo.after (List.flatten [hostOps0]) _ (Proc.devRef .tc main_cst_0) = _
  simp only [List.flatten_cons, List.flatten_nil, List.append_nil, hostOps0]
  after_results_simp
  try rfl

/-- The values the spread edges are compared with. -/
theorem V_v0 (c : Dev nD) : V m c main_v0 = broadcastInDim S1x1024 ![1] bcast_S1024_S1x1024_1 (fun i => FloatOps.ofBits .f32 (lit2 (S1024.rowMajor i))) := by
  show StableHlo.after (List.flatten [hostOps0]) _ (Proc.devRef .tc main_v0) = _
  simp only [List.flatten_cons, List.flatten_nil, List.append_nil, hostOps0]
  after_results_simp
  try rfl

/-- The two bits of each side. -/
theorem V_cst_2 (c : Dev nD) : V m c main_cst_2 = fun i => FloatOps.ofBits .f32 (lit3 (S8x2.rowMajor i)) := by
  show StableHlo.after (List.flatten [hostOps0]) _ (Proc.devRef .tc main_cst_2) = _
  simp only [List.flatten_cons, List.flatten_nil, List.append_nil, hostOps0]
  after_results_simp
  try rfl

/-- The boosts' columns. -/
theorem V_cst_3 (c : Dev nD) : V m c main_cst_3 = fun i => FloatOps.ofBits .f32 (lit4 (S152x7.rowMajor i)) := by
  show StableHlo.after (List.flatten [hostOps0]) _ (Proc.devRef .tc main_cst_3) = _
  simp only [List.flatten_cons, List.flatten_nil, List.append_nil, hostOps0]
  after_results_simp
  try rfl

/-- A row's time against a column's time. -/
def sameTime : FVec F S19x8x8x128 .f32 := uitofp .f32 (cmpi .eq (iotaInDim S19x8x8x128 32 1) (iotaInDim S19x8x8x128 32 2))

/-- The boost mask: one where the row's time is the column's time. -/
theorem V_v18 (c : Dev nD) : V m c main_v18 = shapeCast S152x1024 (sameTime (F := F)) shapeCasts_S19x8x8x128_S152x1024 := by
  show StableHlo.after (List.flatten [hostOps0]) _ (Proc.devRef .tc main_v18) = _
  simp only [List.flatten_cons, List.flatten_nil, List.append_nil, hostOps0]
  after_results_simp
  try rfl

/-- Each damage value divided by 1023. -/
def quot : FVec F S8 .f32 := Host.divf (sitofp .f32 (iotaInDim S8 32 0)) (broadcastInDim S8 ![] bcast_S_S8 (constant S_ .f32 0x447FC000#32))

/-- The damage features, one row per value. -/
theorem V_v13 (c : Dev nD) : V m c main_v13 = concatenate S8x20 1 [⟨S8x1, broadcastInDim S8x1 ![0] bcast_S8_S8x1_0 (quot (F := F))⟩, ⟨S8x1, broadcastInDim S8x1 ![0] bcast_S8_S8x1_0 (Host.absf (quot (F := F)))⟩, ⟨S8x18, fun i => FloatOps.ofBits .f32 (lit0 (S8x18.rowMajor i))⟩] concatenates_S8x1_S8x1_S8x18_S8x20_d1 := by
  show StableHlo.after (List.flatten [hostOps0]) _ (Proc.devRef .tc main_v13) = _
  simp only [List.flatten_cons, List.flatten_nil, List.append_nil, hostOps0]
  after_results_simp
  try rfl

/-- Bias 1 as a row. -/
theorem V_v19 (c : Dev nD) : V m c main_v19 = broadcastInDim S1x128 ![1] bcast_S128_S1x128_1 (m ((c : Thread nD τ).loc main_arg4)) := by
  show StableHlo.after (List.flatten [hostOps0]) _ (Proc.devRef .tc main_v19) = _
  simp only [List.flatten_cons, List.flatten_nil, List.append_nil, hostOps0]
  after_results_simp
  try rfl

/-- Bias 2 as a row. -/
theorem V_v20 (c : Dev nD) : V m c main_v20 = broadcastInDim S1x128 ![1] bcast_S128_S1x128_1 (m ((c : Thread nD τ).loc main_arg6)) := by
  show StableHlo.after (List.flatten [hostOps0]) _ (Proc.devRef .tc main_v20) = _
  simp only [List.flatten_cons, List.flatten_nil, List.append_nil, hostOps0]
  after_results_simp
  try rfl

/-- Bias 3 as a row. -/
theorem V_v21 (c : Dev nD) : V m c main_v21 = broadcastInDim S1x128 ![1] bcast_S128_S1x128_1 (m ((c : Thread nD τ).loc main_arg8)) := by
  show StableHlo.after (List.flatten [hostOps0]) _ (Proc.devRef .tc main_v21) = _
  simp only [List.flatten_cons, List.flatten_nil, List.append_nil, hostOps0]
  after_results_simp
  try rfl

/-- Bias 4 as a row. -/
theorem V_v22 (c : Dev nD) : V m c main_v22 = broadcastInDim S1x128 ![1] bcast_S128_S1x128_1 (m ((c : Thread nD τ).loc main_arg10)) := by
  show StableHlo.after (List.flatten [hostOps0]) _ (Proc.devRef .tc main_v22) = _
  simp only [List.flatten_cons, List.flatten_nil, List.append_nil, hostOps0]
  after_results_simp
  try rfl

/-- Bias 5 as a row. -/
theorem V_v23 (c : Dev nD) : V m c main_v23 = broadcastInDim S1x128 ![1] bcast_S128_S1x128_1 (m ((c : Thread nD τ).loc main_arg12)) := by
  show StableHlo.after (List.flatten [hostOps0]) _ (Proc.devRef .tc main_v23) = _
  simp only [List.flatten_cons, List.flatten_nil, List.append_nil, hostOps0]
  after_results_simp
  try rfl

end Cert.KernelIdeal.Hand
-- ==== Proof.Lits.lean ====
module

public import proofs.«01_k».proof.KernelIdeal
public import Mathlib.Tactic.IntervalCases
public import Mathlib.Tactic.FinCases

/-! The five printed constant tables, read at an entry: the table that repeats each looked-up column, the value
    that each one-hot column stands for, the two bits of a side word, the rows that pick the boosts, and the last
    eighteen features of a damage word. -/

@[expose] public section

set_option maxRecDepth 100000

namespace Cert.KernelIdeal.Hand

open Idealize.ShloMosaic

/-- Entries 0 to 16383 of the repeating table: its blocks off the diagonal are all one block. -/
theorem lit1t1_0_at (i : ℕ) : lit1t1_0 i =
    bif i / 128 % 128 / 8 % 8 == i / 128 % 128 % 8 then (bif i / 128 % 128 / 64 == 0 then lit1t0_0 i else lit1t0_64 i) else lit1t0_1 i := by
  have hx := Nat.mod_lt (i / 128) (show 128 > 0 by decide)
  delta lit1t1_0
  generalize i / 128 % 128 = x at *
  interval_cases x <;> rfl

/-- Entries 16384 to 32767 of the repeating table: its blocks off the diagonal are all one block. -/
theorem lit1t1_1_at (i : ℕ) : lit1t1_1 i =
    bif i / 128 % 128 / 8 % 8 == i / 128 % 128 % 8 then (bif i / 128 % 128 / 64 == 0 then lit1t0_128 i else lit1t0_192 i) else lit1t0_1 i := by
  have hx := Nat.mod_lt (i / 128) (show 128 > 0 by decide)
  delta lit1t1_1
  generalize i / 128 % 128 = x at *
  interval_cases x <;> rfl

/-- Entries 32768 to 49151 of the repeating table: its blocks off the diagonal are all one block. -/
theorem lit1t1_2_at (i : ℕ) : lit1t1_2 i =
    bif i / 128 % 128 / 8 % 8 == i / 128 % 128 % 8 then (bif i / 128 % 128 / 64 == 0 then lit1t0_256 i else lit1t0_320 i) else lit1t0_1 i := by
  have hx := Nat.mod_lt (i / 128) (show 128 > 0 by decide)
  delta lit1t1_2
  generalize i / 128 % 128 = x at *
  interval_cases x <;> rfl

/-- Entries 49152 to 65535 of the repeating table: its blocks off the diagonal are all one block. -/
theorem lit1t1_3_at (i : ℕ) : lit1t1_3 i =
    bif i / 128 % 128 / 8 % 8 == i / 128 % 128 % 8 then (bif i / 128 % 128 / 64 == 0 then lit1t0_384 i else lit1t0_448 i) else lit1t0_1 i := by
  have hx := Nat.mod_lt (i / 128) (show 128 > 0 by decide)
  delta lit1t1_3
  generalize i / 128 % 128 = x at *
  interval_cases x <;> rfl

/-- Entries 65536 to 81919 of the repeating table: its blocks off the diagonal are all one block. -/
theorem lit1t1_4_at (i : ℕ) : lit1t1_4 i =
    bif i / 128 % 128 / 8 % 8 == i / 128 % 128 % 8 then (bif i / 128 % 128 / 64 == 0 then lit1t0_512 i else lit1t0_576 i) else lit1t0_1 i := by
  have hx := Nat.mod_lt (i / 128) (show 128 > 0 by decide)
  delta lit1t1_4
  generalize i / 128 % 128 = x at *
  interval_cases x <;> rfl

/-- Entries 81920 to 98303 of the repeating table: its blocks off the diagonal are all one block. -/
theorem lit1t1_5_at (i : ℕ) : lit1t1_5 i =
    bif i / 128 % 128 / 8 % 8 == i / 128 % 128 % 8 then (bif i / 128 % 128 / 64 == 0 then lit1t0_640 i else lit1t0_704 i) else lit1t0_1 i := by
  have hx := Nat.mod_lt (i / 128) (show 128 > 0 by decide)
  delta lit1t1_5
  generalize i / 128 % 128 = x at *
  interval_cases x <;> rfl

/-- Entries 98304 to 114687 of the repeating table: its blocks off the diagonal are all one block. -/
theorem lit1t1_6_at (i : ℕ) : lit1t1_6 i =
    bif i / 128 % 128 / 8 % 8 == i / 128 % 128 % 8 then (bif i / 128 % 128 / 64 == 0 then lit1t0_768 i else lit1t0_832 i) else lit1t0_1 i := by
  have hx := Nat.mod_lt (i / 128) (show 128 > 0 by decide)
  delta lit1t1_6
  generalize i / 128 % 128 = x at *
  interval_cases x <;> rfl

/-- Entries 114688 to 131071 of the repeating table: its blocks off the diagonal are all one block. -/
theorem lit1t1_7_at (i : ℕ) : lit1t1_7 i =
    bif i / 128 % 128 / 8 % 8 == i / 128 % 128 % 8 then (bif i / 128 % 128 / 64 == 0 then lit1t0_896 i else lit1t0_960 i) else lit1t0_1 i := by
  have hx := Nat.mod_lt (i / 128) (show 128 > 0 by decide)
  delta lit1t1_7
  generalize i / 128 % 128 = x at *
  interval_cases x <;> rfl

/-- Entries 131072 to 147455 of the repeating table: its blocks off the diagonal are all one block. -/
theorem lit1t1_8_at (i : ℕ) : lit1t1_8 i =
    bif i / 128 % 128 / 8 % 8 == i / 128 % 128 % 8 then (bif i / 128 % 128 / 64 == 0 then lit1t0_1024 i else lit1t0_1088 i) else lit1t0_1 i := by
  have hx := Nat.mod_lt (i / 128) (show 128 > 0 by decide)
  delta lit1t1_8
  generalize i / 128 % 128 = x at *
  interval_cases x <;> rfl

/-- Entries 147456 to 155647 of the repeating table: its blocks off the diagonal are all one block. -/
theorem lit1t1_9_at (i : ℕ) (h64 : i / 128 % 128 < 64) : lit1t1_9 i =
    bif i / 128 % 128 / 8 % 8 == i / 128 % 128 % 8 then (bif i / 128 % 128 / 64 == 0 then lit1t0_1152 i else lit1t0_1 i) else lit1t0_1 i := by
  have hx := Nat.mod_lt (i / 128) (show 128 > 0 by decide)
  delta lit1t1_9
  generalize i / 128 % 128 = x at *
  interval_cases x <;> rfl

/-- A block of 128 entries depends on the entry's last digit alone. -/
theorem lit1t0_1_mod (i : ℕ) : lit1t0_1 i = lit1t0_1 (i % 128) := by
  delta lit1t0_1; simp only [Nat.mod_mod]

/-- A block of 128 entries depends on the entry's last digit alone. -/
theorem lit1t0_0_mod (i : ℕ) : lit1t0_0 i = lit1t0_0 (i % 128) := by
  delta lit1t0_0; simp only [Nat.mod_mod]

/-- A block of 128 entries depends on the entry's last digit alone. -/
theorem lit1t0_64_mod (i : ℕ) : lit1t0_64 i = lit1t0_64 (i % 128) := by
  delta lit1t0_64; simp only [Nat.mod_mod]

/-- A block of 128 entries depends on the entry's last digit alone. -/
theorem lit1t0_128_mod (i : ℕ) : lit1t0_128 i = lit1t0_128 (i % 128) := by
  delta lit1t0_128; simp only [Nat.mod_mod]

/-- A block of 128 entries depends on the entry's last digit alone. -/
theorem lit1t0_192_mod (i : ℕ) : lit1t0_192 i = lit1t0_192 (i % 128) := by
  delta lit1t0_192; simp only [Nat.mod_mod]

/-- A block of 128 entries depends on the entry's last digit alone. -/
theorem lit1t0_256_mod (i : ℕ) : lit1t0_256 i = lit1t0_256 (i % 128) := by
  delta lit1t0_256; simp only [Nat.mod_mod]

/-- A block of 128 entries depends on the entry's last digit alone. -/
theorem lit1t0_320_mod (i : ℕ) : lit1t0_320 i = lit1t0_320 (i % 128) := by
  delta lit1t0_320; simp only [Nat.mod_mod]

/-- A block of 128 entries depends on the entry's last digit alone. -/
theorem lit1t0_384_mod (i : ℕ) : lit1t0_384 i = lit1t0_384 (i % 128) := by
  delta lit1t0_384; simp only [Nat.mod_mod]

/-- A block of 128 entries depends on the entry's last digit alone. -/
theorem lit1t0_448_mod (i : ℕ) : lit1t0_448 i = lit1t0_448 (i % 128) := by
  delta lit1t0_448; simp only [Nat.mod_mod]

/-- A block of 128 entries depends on the entry's last digit alone. -/
theorem lit1t0_512_mod (i : ℕ) : lit1t0_512 i = lit1t0_512 (i % 128) := by
  delta lit1t0_512; simp only [Nat.mod_mod]

/-- A block of 128 entries depends on the entry's last digit alone. -/
theorem lit1t0_576_mod (i : ℕ) : lit1t0_576 i = lit1t0_576 (i % 128) := by
  delta lit1t0_576; simp only [Nat.mod_mod]

/-- A block of 128 entries depends on the entry's last digit alone. -/
theorem lit1t0_640_mod (i : ℕ) : lit1t0_640 i = lit1t0_640 (i % 128) := by
  delta lit1t0_640; simp only [Nat.mod_mod]

/-- A block of 128 entries depends on the entry's last digit alone. -/
theorem lit1t0_704_mod (i : ℕ) : lit1t0_704 i = lit1t0_704 (i % 128) := by
  delta lit1t0_704; simp only [Nat.mod_mod]

/-- A block of 128 entries depends on the entry's last digit alone. -/
theorem lit1t0_768_mod (i : ℕ) : lit1t0_768 i = lit1t0_768 (i % 128) := by
  delta lit1t0_768; simp only [Nat.mod_mod]

/-- A block of 128 entries depends on the entry's last digit alone. -/
theorem lit1t0_832_mod (i : ℕ) : lit1t0_832 i = lit1t0_832 (i % 128) := by
  delta lit1t0_832; simp only [Nat.mod_mod]

/-- A block of 128 entries depends on the entry's last digit alone. -/
theorem lit1t0_896_mod (i : ℕ) : lit1t0_896 i = lit1t0_896 (i % 128) := by
  delta lit1t0_896; simp only [Nat.mod_mod]

/-- A block of 128 entries depends on the entry's last digit alone. -/
theorem lit1t0_960_mod (i : ℕ) : lit1t0_960 i = lit1t0_960 (i % 128) := by
  delta lit1t0_960; simp only [Nat.mod_mod]

/-- A block of 128 entries depends on the entry's last digit alone. -/
theorem lit1t0_1024_mod (i : ℕ) : lit1t0_1024 i = lit1t0_1024 (i % 128) := by
  delta lit1t0_1024; simp only [Nat.mod_mod]

/-- A block of 128 entries depends on the entry's last digit alone. -/
theorem lit1t0_1088_mod (i : ℕ) : lit1t0_1088 i = lit1t0_1088 (i % 128) := by
  delta lit1t0_1088; simp only [Nat.mod_mod]

/-- A block of 128 entries depends on the entry's last digit alone. -/
theorem lit1t0_1152_mod (i : ℕ) : lit1t0_1152 i = lit1t0_1152 (i % 128) := by
  delta lit1t0_1152; simp only [Nat.mod_mod]

/-- A block of the repeating table off the diagonal is all zeros. -/
theorem lit1_zero (r : Fin 128) : lit1t0_1 r.1 = 0#16 := by revert r; decide +kernel

/-- The diagonal block of column 0 of the edges in the repeating table. -/
theorem lit1_diag0 (r : Fin 128) : lit1t0_0 r.1 = if r.1 < 80 ∧ 0 = r.1 / 8 + 2 then 0x3F80#16 else 0#16 := by
  revert r; decide +kernel

/-- The diagonal block of column 1 of the edges in the repeating table. -/
theorem lit1_diag1 (r : Fin 128) : lit1t0_64 r.1 = if r.1 < 80 ∧ 1 = r.1 / 8 + 2 then 0x3F80#16 else 0#16 := by
  revert r; decide +kernel

/-- The diagonal block of column 2 of the edges in the repeating table. -/
theorem lit1_diag2 (r : Fin 128) : lit1t0_128 r.1 = if r.1 < 80 ∧ 2 = r.1 / 8 + 2 then 0x3F80#16 else 0#16 := by
  revert r; decide +kernel

/-- The diagonal block of column 3 of the edges in the repeating table. -/
theorem lit1_diag3 (r : Fin 128) : lit1t0_192 r.1 = if r.1 < 80 ∧ 3 = r.1 / 8 + 2 then 0x3F80#16 else 0#16 := by
  revert r; decide +kernel

/-- The diagonal block of column 4 of the edges in the repeating table. -/
theorem lit1_diag4 (r : Fin 128) : lit1t0_256 r.1 = if r.1 < 80 ∧ 4 = r.1 / 8 + 2 then 0x3F80#16 else 0#16 := by
  revert r; decide +kernel

/-- The diagonal block of column 5 of the edges in the repeating table. -/
theorem lit1_diag5 (r : Fin 128) : lit1t0_320 r.1 = if r.1 < 80 ∧ 5 = r.1 / 8 + 2 then 0x3F80#16 else 0#16 := by
  revert r; decide +kernel

/-- The diagonal block of column 6 of the edges in the repeating table. -/
theorem lit1_diag6 (r : Fin 128) : lit1t0_384 r.1 = if r.1 < 80 ∧ 6 = r.1 / 8 + 2 then 0x3F80#16 else 0#16 := by
  revert r; decide +kernel

/-- The diagonal block of column 7 of the edges in the repeating table. -/
theorem lit1_diag7 (r : Fin 128) : lit1t0_448 r.1 = if r.1 < 80 ∧ 7 = r.1 / 8 + 2 then 0x3F80#16 else 0#16 := by
  revert r; decide +kernel

/-- The diagonal block of column 8 of the edges in the repeating table. -/
theorem lit1_diag8 (r : Fin 128) : lit1t0_512 r.1 = if r.1 < 80 ∧ 8 = r.1 / 8 + 2 then 0x3F80#16 else 0#16 := by
  revert r; decide +kernel

/-- The diagonal block of column 9 of the edges in the repeating table. -/
theorem lit1_diag9 (r : Fin 128) : lit1t0_576 r.1 = if r.1 < 80 ∧ 9 = r.1 / 8 + 2 then 0x3F80#16 else 0#16 := by
  revert r; decide +kernel

/-- The diagonal block of column 10 of the edges in the repeating table. -/
theorem lit1_diag10 (r : Fin 128) : lit1t0_640 r.1 = if r.1 < 80 ∧ 10 = r.1 / 8 + 2 then 0x3F80#16 else 0#16 := by
  revert r; decide +kernel

/-- The diagonal block of column 11 of the edges in the repeating table. -/
theorem lit1_diag11 (r : Fin 128) : lit1t0_704 r.1 = if r.1 < 80 ∧ 11 = r.1 / 8 + 2 then 0x3F80#16 else 0#16 := by
  revert r; decide +kernel

/-- The diagonal block of column 12 of the edges in the repeating table. -/
theorem lit1_diag12 (r : Fin 128) : lit1t0_768 r.1 = if r.1 < 80 ∧ 12 = r.1 / 8 + 2 then 0x3F80#16 else 0#16 := by
  revert r; decide +kernel

/-- The diagonal block of column 13 of the edges in the repeating table. -/
theorem lit1_diag13 (r : Fin 128) : lit1t0_832 r.1 = if r.1 < 80 ∧ 13 = r.1 / 8 + 2 then 0x3F80#16 else 0#16 := by
  revert r; decide +kernel

/-- The diagonal block of column 14 of the edges in the repeating table. -/
theorem lit1_diag14 (r : Fin 128) : lit1t0_896 r.1 = if r.1 < 80 ∧ 14 = r.1 / 8 + 2 then 0x3F80#16 else 0#16 := by
  revert r; decide +kernel

/-- The diagonal block of column 15 of the edges in the repeating table. -/
theorem lit1_diag15 (r : Fin 128) : lit1t0_960 r.1 = if r.1 < 80 ∧ 15 = r.1 / 8 + 2 then 0x3F80#16 else 0#16 := by
  revert r; decide +kernel

/-- The diagonal block of column 16 of the edges in the repeating table. -/
theorem lit1_diag16 (r : Fin 128) : lit1t0_1024 r.1 = if r.1 < 80 ∧ 16 = r.1 / 8 + 2 then 0x3F80#16 else 0#16 := by
  revert r; decide +kernel

/-- The diagonal block of column 17 of the edges in the repeating table. -/
theorem lit1_diag17 (r : Fin 128) : lit1t0_1088 r.1 = if r.1 < 80 ∧ 17 = r.1 / 8 + 2 then 0x3F80#16 else 0#16 := by
  revert r; decide +kernel

/-- The diagonal block of column 18 of the edges in the repeating table. -/
theorem lit1_diag18 (r : Fin 128) : lit1t0_1152 r.1 = if r.1 < 80 ∧ 18 = r.1 / 8 + 2 then 0x3F80#16 else 0#16 := by
  revert r; decide +kernel

/-- The repeating table: entry `(8 k + t, 128 n + r)` is one where `t = n` and column `r` of the block stands for
    column `k` of the edges. -/
theorem lit1_at (k : Fin 19) (t n : Fin 8) (r : Fin 128) :
    lit1t ((8 * k.1 + t.1) * 1024 + (128 * n.1 + r.1))
      = if t = n ∧ r.1 < 80 ∧ k.1 = r.1 / 8 + 2 then 0x3F80#16 else 0#16 := by
  obtain ⟨k, hk⟩ := k; obtain ⟨t, ht⟩ := t; obtain ⟨n, hn⟩ := n; obtain ⟨r, hr⟩ := r
  have hq : ((8 * k + t) * 1024 + (128 * n + r)) / 16384 = k / 2 := by omega
  have hx : ((8 * k + t) * 1024 + (128 * n + r)) / 128 % 128 = 64 * (k % 2) + 8 * t + n := by omega
  have hr' : ((8 * k + t) * 1024 + (128 * n + r)) % 128 = r := by omega
  have h1 : (64 * (k % 2) + 8 * t + n) / 8 % 8 = t := by omega
  have h2 : (64 * (k % 2) + 8 * t + n) % 8 = n := by omega
  have h3 : (64 * (k % 2) + 8 * t + n) / 64 = k % 2 := by omega
  have e1 : lit1t0_1 ((8 * k + t) * 1024 + (128 * n + r)) = 0#16 := by
    rw [lit1t0_1_mod, hr']; exact lit1_zero ⟨r, hr⟩
  simp only [Fin.mk.injEq]
  generalize (8 * k + t) * 1024 + (128 * n + r) = i at *
  have hb : ∀ (b0 : ℕ → BitVec 16) (b1 : BitVec 16), (k % 2 = 0 → b0 i = if r < 80 ∧ k = r / 8 + 2 then 0x3F80#16 else 0#16) →
      (k % 2 = 1 → b1 = if r < 80 ∧ k = r / 8 + 2 then 0x3F80#16 else 0#16) →
      (bif i / 128 % 128 / 8 % 8 == i / 128 % 128 % 8 then (bif i / 128 % 128 / 64 == 0 then b0 i else b1) else lit1t0_1 i)
      = if t = n ∧ r < 80 ∧ k = r / 8 + 2 then 0x3F80#16 else 0#16 := by
    intro b0 b1 g0 g1
    rw [hx, h1, h2, h3, e1]
    rcases Nat.mod_two_eq_zero_or_one k with h | h
    · rw [g0 h]; by_cases h' : t = n
      · simp [h, h']
      · simp [h, h', beq_eq_false_iff_ne.mpr h']
    · rw [g1 h]; by_cases h' : t = n
      · simp [h, h']
      · simp [h, h', beq_eq_false_iff_ne.mpr h']
  delta lit1t
  simp only [hq]
  have hk2 : k / 2 < 10 := by omega
  have h64 : k / 2 = 9 → i / 128 % 128 < 64 := by omega
  interval_cases k

  · exact (lit1t1_0_at i).trans (hb lit1t0_0 _ (fun _ => (lit1t0_0_mod i).trans (hr' ▸ lit1_diag0 ⟨r, hr⟩)) (fun h => absurd h (by decide)))
  · exact (lit1t1_0_at i).trans (hb lit1t0_0 _ (fun h => absurd h (by decide)) (fun _ => (lit1t0_64_mod i).trans (hr' ▸ lit1_diag1 ⟨r, hr⟩)))
  · exact (lit1t1_1_at i).trans (hb lit1t0_128 _ (fun _ => (lit1t0_128_mod i).trans (hr' ▸ lit1_diag2 ⟨r, hr⟩)) (fun h => absurd h (by decide)))
  · exact (lit1t1_1_at i).trans (hb lit1t0_128 _ (fun h => absurd h (by decide)) (fun _ => (lit1t0_192_mod i).trans (hr' ▸ lit1_diag3 ⟨r, hr⟩)))
  · exact (lit1t1_2_at i).trans (hb lit1t0_256 _ (fun _ => (lit1t0_256_mod i).trans (hr' ▸ lit1_diag4 ⟨r, hr⟩)) (fun h => absurd h (by decide)))
  · exact (lit1t1_2_at i).trans (hb lit1t0_256 _ (fun h => absurd h (by decide)) (fun _ => (lit1t0_320_mod i).trans (hr' ▸ lit1_diag5 ⟨r, hr⟩)))
  · exact (lit1t1_3_at i).trans (hb lit1t0_384 _ (fun _ => (lit1t0_384_mod i).trans (hr' ▸ lit1_diag6 ⟨r, hr⟩)) (fun h => absurd h (by decide)))
  · exact (lit1t1_3_at i).trans (hb lit1t0_384 _ (fun h => absurd h (by decide)) (fun _ => (lit1t0_448_mod i).trans (hr' ▸ lit1_diag7 ⟨r, hr⟩)))
  · exact (lit1t1_4_at i).trans (hb lit1t0_512 _ (fun _ => (lit1t0_512_mod i).trans (hr' ▸ lit1_diag8 ⟨r, hr⟩)) (fun h => absurd h (by decide)))
  · exact (lit1t1_4_at i).trans (hb lit1t0_512 _ (fun h => absurd h (by decide)) (fun _ => (lit1t0_576_mod i).trans (hr' ▸ lit1_diag9 ⟨r, hr⟩)))
  · exact (lit1t1_5_at i).trans (hb lit1t0_640 _ (fun _ => (lit1t0_640_mod i).trans (hr' ▸ lit1_diag10 ⟨r, hr⟩)) (fun h => absurd h (by decide)))
  · exact (lit1t1_5_at i).trans (hb lit1t0_640 _ (fun h => absurd h (by decide)) (fun _ => (lit1t0_704_mod i).trans (hr' ▸ lit1_diag11 ⟨r, hr⟩)))
  · exact (lit1t1_6_at i).trans (hb lit1t0_768 _ (fun _ => (lit1t0_768_mod i).trans (hr' ▸ lit1_diag12 ⟨r, hr⟩)) (fun h => absurd h (by decide)))
  · exact (lit1t1_6_at i).trans (hb lit1t0_768 _ (fun h => absurd h (by decide)) (fun _ => (lit1t0_832_mod i).trans (hr' ▸ lit1_diag13 ⟨r, hr⟩)))
  · exact (lit1t1_7_at i).trans (hb lit1t0_896 _ (fun _ => (lit1t0_896_mod i).trans (hr' ▸ lit1_diag14 ⟨r, hr⟩)) (fun h => absurd h (by decide)))
  · exact (lit1t1_7_at i).trans (hb lit1t0_896 _ (fun h => absurd h (by decide)) (fun _ => (lit1t0_960_mod i).trans (hr' ▸ lit1_diag15 ⟨r, hr⟩)))
  · exact (lit1t1_8_at i).trans (hb lit1t0_1024 _ (fun _ => (lit1t0_1024_mod i).trans (hr' ▸ lit1_diag16 ⟨r, hr⟩)) (fun h => absurd h (by decide)))
  · exact (lit1t1_8_at i).trans (hb lit1t0_1024 _ (fun h => absurd h (by decide)) (fun _ => (lit1t0_1088_mod i).trans (hr' ▸ lit1_diag17 ⟨r, hr⟩)))
  · exact (lit1t1_9_at i (h64 rfl)).trans (hb lit1t0_1152 _ (fun _ => (lit1t0_1152_mod i).trans (hr' ▸ lit1_diag18 ⟨r, hr⟩)) (fun h => absurd h (by decide)))

/-- The value that a one-hot column stands for: `r mod 8` in the first 80 columns of each block, minus one in the rest. -/
theorem lit2_at : ∀ (n : Fin 8) (r : Fin 128), lit2t (128 * n.1 + r.1) =
    if r.1 < 80 then (if r.1 % 8 = 0 then 0#32 else if r.1 % 8 = 1 then 0x3F800000#32 else if r.1 % 8 = 2 then 0x40000000#32
      else if r.1 % 8 = 3 then 0x40400000#32 else if r.1 % 8 = 4 then 0x40800000#32 else if r.1 % 8 = 5 then 0x40A00000#32
      else if r.1 % 8 = 6 then 0x40C00000#32 else 0x40E00000#32) else 0xBF800000#32 := by
  decide +kernel

/-- The rows that pick the boosts: entry `(8 k + t, j)` is one where column `k` of the edges is the `j`-th boost. -/
theorem lit4_at : ∀ (k : Fin 19) (t : Fin 8) (j : Fin 7), lit4t ((8 * k.1 + t.1) * 7 + j.1) =
    if k.1 = 12 + j.1 then 0x3F800000#32 else 0#32 := by
  decide +kernel

/-- Bit `q` of a side word `v`. -/
theorem lit3_at : ∀ (v : Fin 8) (q : Fin 2), lit3 ⟨v.1 * 2 + q.1, by omega⟩ =
    if (BitVec.ofNat 32 v.1 &&& BitVec.ofNat 32 (q.1 + 1)) = 0#32 then 0#32 else 0x3F800000#32 := by
  decide +kernel

/-- The last eighteen features of a damage word `v`: its sign, then the one-hot of bin 8 where `v` is not zero. -/
theorem lit0_at : ∀ (v : Fin 8) (q : Fin 18), lit0 ⟨v.1 * 18 + q.1, by omega⟩ =
    if v.1 ≠ 0 ∧ (q.1 = 0 ∨ q.1 = 9) then 0x3F800000#32 else 0#32 := by
  decide +kernel

end Cert.KernelIdeal.Hand
-- ==== Proof.Block.lean ====
module

public import proofs.«01_k».proof.Proof.IdealBody
public import Idealize.ShloMosaic.Lib.Pointwise

/-! What one block computes, read at an index over the extended reals. -/

@[expose] public section

set_option maxRecDepth 16384

noncomputable section

namespace Cert.KernelIdeal.Hand

open Cert.KernelIdeal Cert.KernelIdeal.Gen Idealize.ShloMosaic

/-- Column `j` of the `n`-th group of 128 columns. -/
def col (n : Fin 8) (j : Fin 128) : Fin 1024 := ⟨128 * n.1 + j.1, by omega⟩
/-- Row `b` of the `n`-th group of 1024 rows. -/
def row (n : Fin 8) (b : Fin 1024) : Fin 8192 := ⟨1024 * n.1 + b.1, by omega⟩
/-- Row `8 k + t` of a column-of-the-edges by time matrix. -/
def kt (k : Fin 19) (t : Fin 8) : Fin 152 := ⟨8 * k.1 + t.1, by omega⟩

variable (X0 : Vec Ideal S19x8x1024 .i32) (X1 : Vec Ideal S8x1024x128 .f32) (X2 : Vec Ideal S8x1024x128 .f32) (X3 : Vec Ideal S128x128 .f32) (X4 : Vec Ideal S128x128 .f32) (X5 : Vec Ideal S7x128 .f32) (X6 : Vec Ideal S152x1024 .bf16) (X7 : Vec Ideal S1x1024 .f32) (X8 : Vec Ideal S8x2 .f32) (X9 : Vec Ideal S8x20 .f32) (X10 : Vec Ideal S152x7 .f32) (X11 : Vec Ideal S152x1024 .f32) (X12 : Vec Ideal S8x128 .f32) (X13 : Vec Ideal S8x128 .f32) (X14 : Vec Ideal S8x128 .f32) (X15 : Vec Ideal S8x128 .f32) (X16 : Vec Ideal S8x128 .f32) (X17 : Vec Ideal S8x128 .f32) (X18 : Vec Ideal S8x128 .f32) (X19 : Vec Ideal S8x128 .f32) (X20 : Vec Ideal S20x128 .f32) (X21 : Vec Ideal S2x128 .f32) (X22 : Vec Ideal S1x128 .f32) (X23 : Vec Ideal S1x128 .f32) (X24 : Vec Ideal S1x128 .f32) (X25 : Vec Ideal S1x128 .f32) (X26 : Vec Ideal S1x128 .f32)

/-- The bias: the sum of the five. -/
theorem pay5_apply (d : Fin 128) : k0_pay5 (F := Ideal) (k0_pay4 X22) X23 X24 X25 X26 (ix2 0 d)
    = X22 (ix2 0 d) + X23 (ix2 0 d) + X24 (ix2 0 d) + X25 (ix2 0 d) + X26 (ix2 0 d) := by
  pointwise [k0_pay5, k0_pay4]

/-- The two products at an index. -/
theorem pay11_apply (n : Fin 8) (b : Fin 1024) (d : Fin 128) :
    k0_pay11 (F := Ideal) (k0_pay9 X1) (k0_pay10 X2) X3 X4 (ix2 (row n b) d)
      = (∑ i : Fin 128, X1 (ix3 n b i) * X3 (ix2 i d)) + ∑ i : Fin 128, X2 (ix3 n b i) * X4 (ix2 i d) := by
  pointwise [k0_pay11, k0_pay9, k0_pay10]
  have h1 : ∀ h, (⟨(row n b).1 / 1024, h⟩ : Fin 8) = n := fun h => Fin.ext (by simp only [row]; omega)
  have h2 : ∀ h, (⟨(row n b).1 % 1024, h⟩ : Fin 1024) = b := fun h => Fin.ext (by simp only [row]; omega)
  simp only [h1, h2]

/-- The edges as a matrix, at an index. -/
theorem pay6_apply (k : Fin 19) (t : Fin 8) (b : Fin 1024) :
    k0_pay6 (F := Ideal) X0 (ix2 (kt k t) b) = (((X0 (ix3 k t b)).toInt : ℝ) : EReal) := by
  pointwise [k0_pay6]
  have h1 : ∀ h, (⟨(kt k t).1 / 8, h⟩ : Fin 19) = k := fun h => Fin.ext (by simp only [kt]; omega)
  have h2 : ∀ h, (⟨(kt k t).1 % 8, h⟩ : Fin 8) = t := fun h => Fin.ext (by simp only [kt]; omega)
  simp only [h1, h2]
  rfl

/-- The one-hot at an index. -/
theorem pay7_apply (b : Fin 1024) (l : Fin 1024) :
    k0_pay7 (F := Ideal) X6 X7 X0 (ix2 b l)
      = if (∑ r : Fin 152, k0_pay6 (F := Ideal) X0 (ix2 r b) * X6 (ix2 r l)) = X7 (ix2 0 l) then 1 else 0 := by
  unfold k0_pay7
  generalize k0_pay6 (F := Ideal) X0 = Q
  pointwise []
  split
  · next h =>
    simp only [h, decide_true]
    show (((BitVec.setWidth 32 (BitVec.ofBool true)).toInt : ℝ) : EReal) = 1
    rw [show (BitVec.setWidth 32 (BitVec.ofBool true)).toInt = 1 by decide]; norm_num
  · next h =>
    simp only [h, decide_false]
    show (((BitVec.setWidth 32 (BitVec.ofBool false)).toInt : ℝ) : EReal) = 0
    rw [show (BitVec.setWidth 32 (BitVec.ofBool false)).toInt = 0 by decide]; norm_num

/-- The boosts at an index. -/
theorem pay8_apply (b : Fin 1024) (n : Fin 8) (d : Fin 128) :
    k0_pay8 (F := Ideal) X10 X5 X11 X0 (ix2 b (col n d))
      = ∑ r : Fin 152, k0_pay6 (F := Ideal) X0 (ix2 r b) * ((∑ j : Fin 7, X10 (ix2 r j) * X5 (ix2 j d)) * X11 (ix2 r (col n d))) := by
  unfold k0_pay8
  generalize k0_pay6 (F := Ideal) X0 = Q
  have hd := d.2
  have e : ∀ a (h : a < 128), a = d.1 → (⟨a, h⟩ : Fin 128) = d := fun a h q => Fin.ext q
  have hc : (col n d).1 = 128 * n.1 + d.1 := rfl
  pointwise []
  refine Finset.sum_congr rfl fun x _ => ?_
  obtain ⟨n, hn⟩ := n
  interval_cases n <;> dsimp only at hc <;>
    (repeat (first | rw [dif_pos (by omega)] | rw [dif_neg (by omega)])) <;> (rw [e]; omega)

/-- The ten tables, one after the other. -/
def tab (k : Fin 10) (v : Fin 8) (d : Fin 128) : EReal :=
  match k with
  | 0 => X12 (ix2 v d) | 1 => X13 (ix2 v d) | 2 => X14 (ix2 v d) | 3 => X15 (ix2 v d) | 4 => X16 (ix2 v d)
  | 5 => X17 (ix2 v d) | 6 => X18 (ix2 v d) | 7 => X19 (ix2 v d)
  | 8 => ∑ q : Fin 2, X8 (ix2 v q) * X21 (ix2 q d)
  | 9 => ∑ q : Fin 20, X9 (ix2 v q) * X20 (ix2 q d)

/-- The stacked tables: row `8 k + v` is row `v` of table `k`. -/
theorem pay3_lo (k : Fin 10) (v : Fin 8) (d : Fin 128) (h : 8 * k.1 + v.1 < 128) :
    k0_pay3 (F := Ideal) X8 X21 X9 X20 X12 X13 X14 X15 X16 X17 X18 X19 (ix2 ⟨8 * k.1 + v.1, h⟩ d) = tab X8 X9 X12 X13 X14 X15 X16 X17 X18 X19 X20 X21 k v d := by
  have hv := v.2
  have e : ∀ a (h : a < 8), a = v.1 → (⟨a, h⟩ : Fin 8) = v := fun a h q => Fin.ext q
  pointwise [k0_pay3]
  obtain ⟨k, hk⟩ := k
  interval_cases k <;> dsimp only [tab] <;>
    (repeat (first | rw [dif_pos (by omega)] | rw [dif_neg (by omega)])) <;> (rw [e]; omega)

/-- The stacked tables end in rows of zeros. -/
theorem pay3_hi (i : Fin 48) (d : Fin 128) (h : 80 + i.1 < 128) :
    k0_pay3 (F := Ideal) X8 X21 X9 X20 X12 X13 X14 X15 X16 X17 X18 X19 (ix2 ⟨80 + i.1, h⟩ d) = 0 := by
  pointwise [k0_pay3]
  repeat rw [dif_neg (by omega)]

end Cert.KernelIdeal.Hand
-- ==== Proof.Slab.lean ====
module

public import proofs.«01_k».proof.Proof.Block

/-! One slab of a block, read at an index. -/

@[expose] public section

set_option maxRecDepth 16384

noncomputable section

namespace Cert.KernelIdeal.Hand

open Cert.KernelIdeal Cert.KernelIdeal.Gen Idealize.ShloMosaic

variable (X0 : Vec Ideal S19x8x1024 .i32) (X1 : Vec Ideal S8x1024x128 .f32) (X2 : Vec Ideal S8x1024x128 .f32) (X3 : Vec Ideal S128x128 .f32) (X4 : Vec Ideal S128x128 .f32) (X5 : Vec Ideal S7x128 .f32) (X6 : Vec Ideal S152x1024 .bf16) (X7 : Vec Ideal S1x1024 .f32) (X8 : Vec Ideal S8x2 .f32) (X9 : Vec Ideal S8x20 .f32) (X10 : Vec Ideal S152x7 .f32) (X11 : Vec Ideal S152x1024 .f32) (X12 : Vec Ideal S8x128 .f32) (X13 : Vec Ideal S8x128 .f32) (X14 : Vec Ideal S8x128 .f32) (X15 : Vec Ideal S8x128 .f32) (X16 : Vec Ideal S8x128 .f32) (X17 : Vec Ideal S8x128 .f32) (X18 : Vec Ideal S8x128 .f32) (X19 : Vec Ideal S8x128 .f32) (X20 : Vec Ideal S20x128 .f32) (X21 : Vec Ideal S2x128 .f32) (X22 : Vec Ideal S1x128 .f32) (X23 : Vec Ideal S1x128 .f32) (X24 : Vec Ideal S1x128 .f32) (X25 : Vec Ideal S1x128 .f32) (X26 : Vec Ideal S1x128 .f32)

set_option maxHeartbeats 1000000 in
/-- Slab `n` at an index: the one-hot product with the stacked tables, the boosts, the two products, the bias. -/
theorem slab_apply (n : Fin 8) (b : Fin 1024) (d : Fin 128) :
    slab X0 X1 X2 X3 X4 X5 X6 X7 X8 X9 X10 X11 X12 X13 X14 X15 X16 X17 X18 X19 X20 X21 X22 X23 X24 X25 X26 n (ix3 0 b d)
      = (((∑ j : Fin 128, k0_pay7 X6 X7 X0 (ix2 b (col n j)) * k0_pay3 X8 X21 X9 X20 X12 X13 X14 X15 X16 X17 X18 X19 (ix2 j d))
          + k0_pay8 X10 X5 X11 X0 (ix2 b (col n d))) + k0_pay11 (k0_pay9 X1) (k0_pay10 X2) X3 X4 (ix2 (row n b) d))
        + k0_pay5 (k0_pay4 X22) X23 X24 X25 X26 (ix2 0 d) := by
  fin_cases n
  · unfold slab k0_pay12
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    have h1 : ∀ (x : Fin 128) h, (⟨x.1, h⟩ : Fin 1024) = col 0 x := fun x h => Fin.ext (by simp [col])
    have h2 : ∀ h, (⟨b.1, h⟩ : Fin 8192) = row 0 b := fun h => Fin.ext (by simp [row])
    simp only [h1, h2]
  · unfold slab k0_pay13
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl
  · unfold slab k0_pay15 k0_pay14
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl
  · unfold slab k0_pay16
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl
  · unfold slab k0_pay17
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl
  · unfold slab k0_pay18
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl
  · unfold slab k0_pay1 k0_pay19
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl
  · unfold slab k0_pay2
    generalize k0_pay11 (k0_pay9 X1) (k0_pay10 X2) X3 X4 = P
    generalize k0_pay7 X6 X7 X0 = O
    generalize k0_pay8 X10 X5 X11 X0 = B
    generalize k0_pay3 X8 X21 X9 X20 X12 X13 X14 X15 X16 X17 X18 X19 = T
    generalize k0_pay5 (k0_pay4 X22) X23 X24 X25 X26 = I
    pointwise []
    rfl

end Cert.KernelIdeal.Hand
-- ==== Proof.BlockVal.lean ====
module

public import proofs.«01_k».proof.Proof.Slab

/-! What a block computes at one row, from the facts on its tables of constants. -/

@[expose] public section

set_option maxRecDepth 16384

noncomputable section

namespace Cert.KernelIdeal.Hand

open Cert.KernelIdeal Cert.KernelIdeal.Gen Idealize.ShloMosaic

/-- The column of the edges that table `k` is picked by. -/
def c2 (k : Fin 10) : Fin 19 := ⟨k.1 + 2, by omega⟩
/-- The column of the edges that boost `j` is in. -/
def c12 (j : Fin 7) : Fin 19 := ⟨12 + j.1, by omega⟩
/-- The row of its table that lane `r` of the one-hot stands for. -/
def md (r : Fin 128) : Fin 8 := ⟨r.1 % 8, by omega⟩

/-- A small number as an extended real. -/
def num (v : Fin 8) : EReal := ((v.1 : ℝ) : EReal)

/-- Two small numbers that are equal as extended reals are equal. -/
theorem num_inj {v w : Fin 8} (h : num v = num w) : v = w := by
  have h1 := EReal.coe_injective h
  exact Fin.ext (by exact_mod_cast h1)

/-- A word below eight read as a signed integer. -/
theorem toInt_small (v : Fin 8) : (BitVec.ofNat 32 v.1).toInt = (v.1 : ℤ) := by
  fin_cases v <;> rfl

/-- A sum over 152 rows, by column of the edges and time. -/
theorem sum_kt (f : Fin 152 → EReal) : (∑ r : Fin 152, f r) = ∑ k : Fin 19, ∑ t : Fin 8, f (kt k t) := by
  rw [← Fintype.sum_prod_type (f := fun p : Fin 19 × Fin 8 => f (kt p.1 p.2))]
  exact (Fintype.sum_equiv (finProdFinEquiv (m := 19) (n := 8)) _ _
    (fun p => congrArg f (Fin.ext (by simp [kt, finProdFinEquiv]; omega)))).symm

/-- A sum over the 128 rows of the stacked tables whose last 48 terms are zero, by table and row. -/
theorem sum_tab (f : Fin 128 → EReal) (h0 : ∀ (i : Fin 48) (h : 80 + i.1 < 128), f ⟨80 + i.1, h⟩ = 0) :
    (∑ j : Fin 128, f j) = ∑ k : Fin 10, ∑ v : Fin 8, f ⟨8 * k.1 + v.1, by omega⟩ := by
  have h1 : (∑ j : Fin 128, f j) = (∑ i : Fin 80, f ⟨i.1, by omega⟩) + ∑ i : Fin 48, f ⟨80 + i.1, by omega⟩ :=
    Fin.sum_univ_add (a := 80) (b := 48) f
  rw [h1, Finset.sum_eq_zero (s := (Finset.univ : Finset (Fin 48))) (fun i _ => h0 i _), add_zero,
    ← Fintype.sum_prod_type (f := fun p : Fin 10 × Fin 8 => f ⟨8 * p.1.1 + p.2.1, by omega⟩)]
  exact (Fintype.sum_equiv (finProdFinEquiv (m := 10) (n := 8)) _ _
    (fun p => congrArg f (Fin.ext (by simp [finProdFinEquiv]; omega)))).symm

/-- A sum over the 19 columns whose first twelve terms are zero. -/
theorem sum_boost (f : Fin 19 → EReal) (h0 : ∀ k : Fin 19, k.1 < 12 → f k = 0) :
    (∑ k : Fin 19, f k) = ∑ j : Fin 7, f (c12 j) := by
  have h1 : (∑ k : Fin 19, f k) = (∑ i : Fin 12, f ⟨i.1, by omega⟩) + ∑ i : Fin 7, f ⟨12 + i.1, by omega⟩ :=
    Fin.sum_univ_add (a := 12) (b := 7) f
  rw [h1, Finset.sum_eq_zero (s := (Finset.univ : Finset (Fin 12))) (fun i _ => h0 _ i.2), zero_add]
  rfl

variable (X0 : Vec Ideal S19x8x1024 .i32) (X1 : Vec Ideal S8x1024x128 .f32) (X2 : Vec Ideal S8x1024x128 .f32) (X3 : Vec Ideal S128x128 .f32) (X4 : Vec Ideal S128x128 .f32) (X5 : Vec Ideal S7x128 .f32) (X6 : Vec Ideal S152x1024 .bf16) (X7 : Vec Ideal S1x1024 .f32) (X8 : Vec Ideal S8x2 .f32) (X9 : Vec Ideal S8x20 .f32) (X10 : Vec Ideal S152x7 .f32) (X11 : Vec Ideal S152x1024 .f32) (X12 : Vec Ideal S8x128 .f32) (X13 : Vec Ideal S8x128 .f32) (X14 : Vec Ideal S8x128 .f32) (X15 : Vec Ideal S8x128 .f32) (X16 : Vec Ideal S8x128 .f32) (X17 : Vec Ideal S8x128 .f32) (X18 : Vec Ideal S8x128 .f32) (X19 : Vec Ideal S8x128 .f32) (X20 : Vec Ideal S20x128 .f32) (X21 : Vec Ideal S2x128 .f32) (X22 : Vec Ideal S1x128 .f32) (X23 : Vec Ideal S1x128 .f32) (X24 : Vec Ideal S1x128 .f32) (X25 : Vec Ideal S1x128 .f32) (X26 : Vec Ideal S1x128 .f32)
variable (e : Fin 19 → Fin 8) (n : Fin 8) (b : Fin 1024)
  (hx : ∀ k, X0 (ix3 k n b) = BitVec.ofNat 32 (e k).1)
  (h6 : ∀ (k : Fin 19) (t : Fin 8) (r : Fin 128), X6 (ix2 (kt k t) (col n r)) = if t = n ∧ r.1 < 80 ∧ k.1 = r.1 / 8 + 2 then (1 : EReal) else 0)
  (h7 : ∀ r : Fin 128, r.1 < 80 → X7 (ix2 0 (col n r)) = num (md r))
  (h10 : ∀ (k : Fin 19) (t : Fin 8) (j : Fin 7), X10 (ix2 (kt k t) j) = if k.1 = 12 + j.1 then (1 : EReal) else 0)
  (h11 : ∀ (k : Fin 19) (t : Fin 8) (r : Fin 128), X11 (ix2 (kt k t) (col n r)) = if t = n then (1 : EReal) else 0)

include hx in
/-- The row's own edge values among the edges read as numbers. -/
theorem pay6_own (k : Fin 19) : k0_pay6 (F := Ideal) X0 (ix2 (kt k n) b) = num (e k) := by
  rw [pay6_apply, hx, toInt_small, num]; norm_cast

include hx h6 in
/-- Row `8 k + v` of the spread edges is the row's edge in column `k + 2`. -/
theorem rep_at (k : Fin 10) (v : Fin 8) :
    (∑ r : Fin 152, k0_pay6 (F := Ideal) X0 (ix2 r b) * X6 (ix2 r (col n ⟨8 * k.1 + v.1, by omega⟩))) = num (e (c2 k)) := by
  rw [sum_kt, Finset.sum_eq_single (c2 k), Finset.sum_eq_single n, pay6_own (X0 := X0) e n b hx, h6,
    if_pos ⟨rfl, by simp only; omega, by simp only [c2]; omega⟩, mul_one]
  · intro t _ ht
    rw [h6, if_neg (fun h => ht h.1), mul_zero]
  · intro h; exact absurd (Finset.mem_univ _) h
  · intro k' _ hk
    refine Finset.sum_eq_zero fun t _ => ?_
    rw [h6, if_neg, mul_zero]
    intro h
    exact hk (Fin.ext (by have := h.2.2; simp only [c2] at this ⊢; omega))
  · intro h; exact absurd (Finset.mem_univ _) h

include hx h6 h7 in
/-- The one-hot at the row, table by table. -/
theorem oh_at (k : Fin 10) (v : Fin 8) :
    k0_pay7 (F := Ideal) X6 X7 X0 (ix2 b (col n ⟨8 * k.1 + v.1, by omega⟩)) = if e (c2 k) = v then 1 else 0 := by
  rw [pay7_apply, rep_at (X0 := X0) (X6 := X6) e n b hx h6, h7 _ (by simp only; omega)]
  have hv : md ⟨8 * k.1 + v.1, by omega⟩ = v := Fin.ext (by simp only [md]; omega)
  simp only [hv]
  by_cases h : e (c2 k) = v
  · rw [if_pos h, if_pos (congrArg num h)]
  · rw [if_neg h, if_neg (fun q => h (num_inj q))]

include hx h6 h7 in
/-- The one-hot product picks one row of each table. -/
theorem tables_at (d : Fin 128) :
    (∑ j : Fin 128, k0_pay7 (F := Ideal) X6 X7 X0 (ix2 b (col n j)) * k0_pay3 (F := Ideal) X8 X21 X9 X20 X12 X13 X14 X15 X16 X17 X18 X19 (ix2 j d))
      = ∑ k : Fin 10, tab X8 X9 X12 X13 X14 X15 X16 X17 X18 X19 X20 X21 k (e (c2 k)) d := by
  rw [sum_tab]
  · refine Finset.sum_congr rfl fun k _ => ?_
    rw [Finset.sum_eq_single (e (c2 k))]
    · rw [oh_at (X0 := X0) (X6 := X6) (X7 := X7) e n b hx h6 h7, if_pos rfl, one_mul, pay3_lo]
    · intro v _ hv
      rw [oh_at (X0 := X0) (X6 := X6) (X7 := X7) e n b hx h6 h7, if_neg (fun q => hv q.symm), zero_mul]
    · intro h; exact absurd (Finset.mem_univ _) h
  · intro i h
    rw [pay3_hi, mul_zero]

include hx h10 h11 in
/-- The boosts at the row. -/
theorem boosts_at (d : Fin 128) :
    k0_pay8 (F := Ideal) X10 X5 X11 X0 (ix2 b (col n d)) = ∑ j : Fin 7, num (e (c12 j)) * X5 (ix2 j d) := by
  rw [pay8_apply, sum_kt]
  have h : ∀ k : Fin 19, (∑ t : Fin 8, k0_pay6 (F := Ideal) X0 (ix2 (kt k t) b) * ((∑ j : Fin 7, X10 (ix2 (kt k t) j) * X5 (ix2 j d)) * X11 (ix2 (kt k t) (col n d))))
      = num (e k) * ∑ j : Fin 7, (if k.1 = 12 + j.1 then (1 : EReal) else 0) * X5 (ix2 j d) := by
    intro k
    rw [Finset.sum_eq_single n, pay6_own (X0 := X0) e n b hx, h11, if_pos rfl, mul_one]
    · simp only [h10]
    · intro t _ ht
      rw [h11, if_neg ht, mul_zero, mul_zero]
    · intro q; exact absurd (Finset.mem_univ _) q
  simp only [h]
  rw [sum_boost]
  · refine Finset.sum_congr rfl fun j _ => ?_
    congr 1
    rw [Finset.sum_eq_single j, if_pos (show (c12 j).1 = 12 + j.1 from rfl), one_mul]
    · intro i _ hi
      rw [if_neg (fun q => hi (Fin.ext (by simp only [c12] at q; omega))), zero_mul]
    · intro q; exact absurd (Finset.mem_univ _) q
  · intro k hk
    rw [Finset.sum_eq_zero, mul_zero]
    intro j _
    rw [if_neg (by omega), zero_mul]

include hx h6 h7 h10 h11 in
/-- Slab `n` at a row whose edges are known. -/
theorem slab_value (d : Fin 128) :
    slab X0 X1 X2 X3 X4 X5 X6 X7 X8 X9 X10 X11 X12 X13 X14 X15 X16 X17 X18 X19 X20 X21 X22 X23 X24 X25 X26 n (ix3 0 b d)
      = (((∑ k : Fin 10, tab X8 X9 X12 X13 X14 X15 X16 X17 X18 X19 X20 X21 k (e (c2 k)) d) + ∑ j : Fin 7, num (e (c12 j)) * X5 (ix2 j d))
          + ((∑ i : Fin 128, X1 (ix3 n b i) * X3 (ix2 i d)) + ∑ i : Fin 128, X2 (ix3 n b i) * X4 (ix2 i d)))
        + (X22 (ix2 0 d) + X23 (ix2 0 d) + X24 (ix2 0 d) + X25 (ix2 0 d) + X26 (ix2 0 d)) := by
  rw [slab_apply, tables_at X0 X6 X7 X8 X9 X12 X13 X14 X15 X16 X17 X18 X19 X20 X21 e n b hx h6 h7, boosts_at X0 X5 X10 X11 e n b hx h10 h11,
    pay11_apply, pay5_apply]

end Cert.KernelIdeal.Hand
-- ==== Proof.EntryAt.lean ====
module

public import proofs.«01_k».proof.Proof.Entry
public import proofs.«01_k».proof.Proof.Lits
public import proofs.«01_k».proof.Proof.BlockVal

/-! The arrays the region finds, read at an index over the extended reals. -/

@[expose] public section

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

/-- The first argument with time first. -/
theorem v1_at (s : Fin 50) (b : Fin 1024) (i : Fin 128) :
    V m c main_v1 (ix3 s b i) = m ((c : Thread nD τ).loc main_arg1) (ix3 b s i) := by
  rw [V_v1]; pointwise []

/-- The second argument with time first. -/
theorem v2_at (s : Fin 50) (b : Fin 1024) (i : Fin 128) :
    V m c main_v2 (ix3 s b i) = m ((c : Thread nD τ).loc main_arg2) (ix3 b s i) := by
  rw [V_v2]; pointwise []

/-- The edges with the column first and the batch last. -/
theorem v3_at (k : Fin 19) (s : Fin 50) (b : Fin 1024) :
    V m c main_v3 (ix3 k s b) = m ((c : Thread nD τ).loc main_arg0) (ix3 b s k) := by
  rw [V_v3]; pointwise []

/-- The patterns of the numbers two to seven. -/
theorem ofBits_small : Ideal.ofBits .f32 0x40000000#32 = ((2 : ℝ) : EReal) ∧ Ideal.ofBits .f32 0x40400000#32 = ((3 : ℝ) : EReal)
    ∧ Ideal.ofBits .f32 0x40800000#32 = ((4 : ℝ) : EReal) ∧ Ideal.ofBits .f32 0x40A00000#32 = ((5 : ℝ) : EReal)
    ∧ Ideal.ofBits .f32 0x40C00000#32 = ((6 : ℝ) : EReal) ∧ Ideal.ofBits .f32 0x40E00000#32 = ((7 : ℝ) : EReal) := by
  refine ⟨?_, ?_, ?_, ?_, ?_, ?_⟩ <;> simp [Ideal.ofBits, Ideal.ieee, -EReal.coe_mul] <;> norm_num

/-- A one or a zero chosen as bits is a one or a zero. -/
theorem pick_f32 (p : Prop) [Decidable p] :
    Ideal.ofBits .f32 (if p then 0x3F800000#32 else 0#32) = if p then 1 else 0 := by
  split
  · exact Ideal.ofBits_one_f32
  · exact Ideal.ofBits_zero .f32

/-- The position, in row-major order, of a column and time's row and a time and row's lane. -/
theorem row_col (k : Fin 19) (t n : Fin 8) (r : Fin 128) :
    (S152x1024.rowMajor (ix2 (kt k t) (col n r))).1 = (8 * k.1 + t.1) * 1024 + (128 * n.1 + r.1) :=
  Shape.rowMajor_val_two _

/-- The matrix that spreads the edges over the lanes: one where the time is the lane's and the column is the lane's table's. -/
theorem cst_0_at (n : Fin 8) (k : Fin 19) (t : Fin 8) (r : Fin 128) :
    V m c main_cst_0 (ix2 (kt k t) (col n r)) = if t = n ∧ r.1 < 80 ∧ k.1 = r.1 / 8 + 2 then (1 : EReal) else 0 := by
  rw [V_cst_0]
  show Ideal.ofBits .bf16 (lit1t (S152x1024.rowMajor (ix2 (kt k t) (col n r))).1) = _
  rw [row_col, lit1_at]
  split
  · exact Ideal.ofBits_one_bf16
  · exact Ideal.ofBits_zero .bf16

/-- The bit one as a float. -/
theorem bit_one : FloatOps.uitofp (F := Ideal) .f32 (1#1) = (1 : EReal) := by
  show (((1#1 : BitVec 1).toNat : ℝ) : EReal) = 1
  simp

/-- The bit zero as a float. -/
theorem bit_zero : FloatOps.uitofp (F := Ideal) .f32 (0#1) = (0 : EReal) := by
  show (((0#1 : BitVec 1).toNat : ℝ) : EReal) = 0
  simp

/-- The boost mask: one where the row's time is the lane's. -/
theorem v18_at (n : Fin 8) (k : Fin 19) (t : Fin 8) (r : Fin 128) :
    V m c main_v18 (ix2 (kt k t) (col n r)) = if t = n then (1 : EReal) else 0 := by
  rw [V_v18]
  refine (shapeCast_apply (sameTime (F := Ideal)) _ (ix2 (kt k t) (col n r)) (ix4 k t n r) ?_).trans ?_
  · refine (Shape.rowMajor_val_four _).trans (Eq.trans ?_ (row_col k t n r).symm)
    show ((k.1 * 8 + t.1) * 8 + n.1) * 128 + r.1 = (8 * k.1 + t.1) * 1024 + (128 * n.1 + r.1)
    omega
  · rw [sameTime]
    pointwise []
    have hc : ∀ t n : Fin 8, IntOp.cmpi .eq (BitVec.ofNat 32 t.1) (BitVec.ofNat 32 n.1) = if t = n then 1#1 else 0#1 := by decide
    rw [hc t n]
    split
    · exact bit_one
    · exact bit_zero

/-- The matrix that picks the seven boost columns. -/
theorem cst_3_at (k : Fin 19) (t : Fin 8) (j : Fin 7) :
    V m c main_cst_3 (ix2 (kt k t) j) = if k.1 = 12 + j.1 then (1 : EReal) else 0 := by
  rw [V_cst_3]
  show Ideal.ofBits .f32 (lit4t (S152x7.rowMajor (ix2 (kt k t) j)).1) = _
  rw [show (S152x7.rowMajor (ix2 (kt k t) j)).1 = (8 * k.1 + t.1) * 7 + j.1 from Shape.rowMajor_val_two _, lit4_at, pick_f32]

/-- The number of each lane's row in its table. -/
theorem v0_at (n : Fin 8) (r : Fin 128) (h : r.1 < 80) :
    V m c main_v0 (ix2 0 (col n r)) = num (md r) := by
  rw [V_v0]
  have hr : r.1 % 8 < 8 := by omega
  pointwise []
  show Ideal.ofBits .f32 (lit2t (S1024.rowMajor (ix1 (col n r))).1) = _
  rw [show (S1024.rowMajor (ix1 (col n r))).1 = 128 * n.1 + r.1 from Shape.rowMajor_val_one _, lit2_at, if_pos h]
  obtain ⟨h2, h3, h4, h5, h6, h7⟩ := ofBits_small
  unfold num md
  simp only
  generalize r.1 % 8 = v at hr ⊢
  interval_cases v <;> simp [h2, h3, h4, h5, h6, h7, Ideal.ofBits_zero]

/-- The side's features, one row per value. -/
theorem cst_2_at (v : Fin 8) (q : Fin 2) :
    V m c main_cst_2 (ix2 v q) = if (BitVec.ofNat 32 v.1 &&& BitVec.ofNat 32 (q.1 + 1)) = 0#32 then (0 : EReal) else 1 := by
  rw [V_cst_2]
  show Ideal.ofBits .f32 (lit3 (S8x2.rowMajor (ix2 v q))) = _
  rw [show S8x2.rowMajor (ix2 v q) = (⟨v.1 * 2 + q.1, by omega⟩ : Fin 16) from Fin.ext (Shape.rowMajor_val_two _), lit3_at]
  split
  · exact Ideal.ofBits_zero .f32
  · exact Ideal.ofBits_one_f32

/-- A value of the damage column over 1023. -/
def quo (v : Fin 8) : EReal := Ideal.div (FloatOps.sitofp (F := Ideal) .f32 (BitVec.ofNat 32 v.1)) (Ideal.ofBits .f32 0x447FC000#32)

/-- The damage features of each value: the value over 1023, its absolute value, its sign and the one-hot of its bin. -/
def feat (v : Fin 8) (q : Fin 20) : EReal :=
  if q.1 < 1 then quo v else if q.1 - 1 < 1 then FloatOps.absf (F := Ideal) (φ := .f32) (quo v)
    else if v ≠ 0 ∧ (q.1 = 2 ∨ q.1 = 11) then 1 else 0

/-- The damage features, one row per value. -/
theorem v13_at (v : Fin 8) (q : Fin 20) : V m c main_v13 (ix2 v q) = feat v q := by
  rw [V_v13]
  unfold feat quo
  pointwise [quot]
  split
  · rfl
  split
  · rfl
  have h : q.1 - 1 - 1 < 18 := by omega
  have h0 : S8x18.rowMajor (ix2 v ⟨q.1 - 1 - 1, h⟩) = (⟨v.1 * 18 + (⟨q.1 - 1 - 1, h⟩ : Fin 18).1, by simp only; omega⟩ : Fin 144) :=
    Fin.ext (Shape.rowMajor_val_two _)
  show Ideal.ofBits .f32 (lit0 (S8x18.rowMajor (ix2 v ⟨q.1 - 1 - 1, h⟩))) = _
  rw [h0, lit0_at, pick_f32]
  refine if_congr (and_congr (not_congr ⟨fun e => Fin.ext e, fun e => congrArg Fin.val e⟩) ?_) rfl rfl
  show q.1 - 1 - 1 = 0 ∨ q.1 - 1 - 1 = 9 ↔ q.1 = 2 ∨ q.1 = 11
  omega

/-- The first bias as a row. -/
theorem v19_at (d : Fin 128) : V m c main_v19 (ix2 0 d) = m ((c : Thread nD τ).loc main_arg4) (ix1 d) := by
  rw [V_v19]; pointwise []
/-- The second bias as a row. -/
theorem v20_at (d : Fin 128) : V m c main_v20 (ix2 0 d) = m ((c : Thread nD τ).loc main_arg6) (ix1 d) := by
  rw [V_v20]; pointwise []
/-- The boosts' bias as a row. -/
theorem v21_at (d : Fin 128) : V m c main_v21 (ix2 0 d) = m ((c : Thread nD τ).loc main_arg8) (ix1 d) := by
  rw [V_v21]; pointwise []
/-- The damage's bias as a row. -/
theorem v22_at (d : Fin 128) : V m c main_v22 (ix2 0 d) = m ((c : Thread nD τ).loc main_arg10) (ix1 d) := by
  rw [V_v22]; pointwise []
/-- The side's bias as a row. -/
theorem v23_at (d : Fin 128) : V m c main_v23 (ix2 0 d) = m ((c : Thread nD τ).loc main_arg12) (ix1 d) := by
  rw [V_v23]; pointwise []

end Cert.KernelIdeal.Hand
-- ==== Proof.Blocks.lean ====
module

public import proofs.«01_k».proof.Proof.EntryAt
public import Idealize.ShloMosaic.Lib.Pipeline.ValueKit

/-! The windows' blocks at an index, and what a block's row is: the sum of the row's embeddings. -/

@[expose] public section

set_option maxRecDepth 16384

noncomputable section

namespace Cert.KernelIdeal.Hand

open Cert.KernelIdeal Cert.KernelIdeal.Gen Idealize.ShloMosaic Idealize.ShloMosaic.TcCoe

section Spec

/-- A table of 919 rows has the eight. -/
theorem le919 : 8 ≤ 919 := by omega
/-- A table of 500 rows has the eight. -/
theorem le500 : 8 ≤ 500 := by omega
/-- A table of 350 rows has the eight. -/
theorem le350 : 8 ≤ 350 := by omega
/-- A table of 32 rows has the eight. -/
theorem le32 : 8 ≤ 32 := by omega
/-- A table of 128 rows has the eight. -/
theorem le128 : 8 ≤ 128 := by omega
/-- A table of 16 rows has the eight. -/
theorem le16 : 8 ≤ 16 := by omega
/-- A table of 20 rows has the eight. -/
theorem le20 : 8 ≤ 20 := by omega

variable (A1 : FVec Ideal S1024x50x128 .f32) (A2 : FVec Ideal S1024x50x128 .f32) (A3 : FVec Ideal S128x128 .f32) (A4 : FVec Ideal S128 .f32) (A5 : FVec Ideal S128x128 .f32) (A6 : FVec Ideal S128 .f32) (A7 : FVec Ideal S7x128 .f32) (A8 : FVec Ideal S128 .f32) (A9 : FVec Ideal S20x128 .f32) (A10 : FVec Ideal S128 .f32) (A11 : FVec Ideal S2x128 .f32) (A12 : FVec Ideal S128 .f32) (A13 : FVec Ideal S919x128 .f32) (A14 : FVec Ideal S500x128 .f32) (A15 : FVec Ideal S350x128 .f32) (A16 : FVec Ideal S8x128 .f32) (A17 : FVec Ideal S16x128 .f32) (A18 : FVec Ideal S32x128 .f32) (A19 : FVec Ideal S128x128 .f32) (A20 : FVec Ideal S20x128 .f32)

/-- Bit `q` of the side word `v`. -/
def sideBit (v : Fin 8) (q : Fin 2) : EReal := if (BitVec.ofNat 32 v.1 &&& BitVec.ofNat 32 (q.1 + 1)) = 0#32 then 0 else 1

/-- The ten embeddings a column's value picks: eight rows of tables, the side's and the damage's features times their weights. -/
def emb (k : Fin 10) (v : Fin 8) (d : Fin 128) : EReal :=
  match k with
  | 0 => A13 (ix2 (Fin.castLE le919 v) d) | 1 => A14 (ix2 (Fin.castLE le500 v) d) | 2 => A15 (ix2 (Fin.castLE le350 v) d)
  | 3 => A16 (ix2 v d) | 4 => A18 (ix2 (Fin.castLE le32 v) d) | 5 => A19 (ix2 (Fin.castLE le128 v) d)
  | 6 => A17 (ix2 (Fin.castLE le16 v) d) | 7 => A20 (ix2 (Fin.castLE le20 v) d)
  | 8 => ∑ q : Fin 2, sideBit v q * A11 (ix2 q d)
  | 9 => ∑ q : Fin 20, feat v q * A9 (ix2 q d)

/-- The result at batch `b`, time `s`, lane `d`, of a row whose edges are `e`: the sum of everything embedded. -/
def spec (e : Fin 19 → Fin 8) (b : Fin 1024) (s : Fin 50) (d : Fin 128) : EReal :=
  (((∑ k : Fin 10, emb A9 A11 A13 A14 A15 A16 A17 A18 A19 A20 k (e (c2 k)) d) + ∑ j : Fin 7, num (e (c12 j)) * A7 (ix2 j d))
    + ((∑ i : Fin 128, A1 (ix3 b s i) * A3 (ix2 i d)) + ∑ i : Fin 128, A2 (ix3 b s i) * A5 (ix2 i d)))
  + (A4 (ix1 d) + A6 (ix1 d) + A8 (ix1 d) + A10 (ix1 d) + A12 (ix1 d))

end Spec

variable (m : (ℓ : Loc nD τ sig) → Buf (Elt Ideal) ℓ) (c : Dev nD)

/-! The windows whose block is the whole array or its head, at an index. -/

/-- The windows from the third on, the result's aside, stay at the array's start. -/
theorem still : ∀ (w : Fin cfg0.W), 3 ≤ w.1 → w.1 < 27 → ∀ (t : Fin cfg0.N) a, (cfg0.win w).index t a = 0 := by decide +kernel

/-- Window 3's block, read in `main_arg3`. -/
theorem blk_3 (t : Fin cfg0.N) (i : Fin 128) (j : Fin 128) : iblk m c 3 t (ix2 i j) = m ((c : Thread nD τ).loc main_arg3) (ix2 i j) :=
  (congrArg (V m c main_arg3) (by blk_ext [still 3 (by decide) (by decide) t])).trans (congrFun (V_main_arg3 m c) _)
/-- Window 4's block, read in `main_arg5`. -/
theorem blk_4 (t : Fin cfg0.N) (i : Fin 128) (j : Fin 128) : iblk m c 4 t (ix2 i j) = m ((c : Thread nD τ).loc main_arg5) (ix2 i j) :=
  (congrArg (V m c main_arg5) (by blk_ext [still 4 (by decide) (by decide) t])).trans (congrFun (V_main_arg5 m c) _)
/-- Window 5's block, read in `main_arg7`. -/
theorem blk_5 (t : Fin cfg0.N) (i : Fin 7) (j : Fin 128) : iblk m c 5 t (ix2 i j) = m ((c : Thread nD τ).loc main_arg7) (ix2 i j) :=
  (congrArg (V m c main_arg7) (by blk_ext [still 5 (by decide) (by decide) t])).trans (congrFun (V_main_arg7 m c) _)
/-- Window 6's block, read in `main_cst_0`. -/
theorem blk_6 (t : Fin cfg0.N) (i : Fin 152) (j : Fin 1024) : iblk m c 6 t (ix2 i j) = V m c main_cst_0 (ix2 i j) :=
  (congrArg (V m c main_cst_0) (by blk_ext [still 6 (by decide) (by decide) t]))
/-- Window 7's block, read in `main_v0`. -/
theorem blk_7 (t : Fin cfg0.N) (i : Fin 1) (j : Fin 1024) : iblk m c 7 t (ix2 i j) = V m c main_v0 (ix2 i j) :=
  (congrArg (V m c main_v0) (by blk_ext [still 7 (by decide) (by decide) t]))
/-- Window 8's block, read in `main_cst_2`. -/
theorem blk_8 (t : Fin cfg0.N) (i : Fin 8) (j : Fin 2) : iblk m c 8 t (ix2 i j) = V m c main_cst_2 (ix2 i j) :=
  (congrArg (V m c main_cst_2) (by blk_ext [still 8 (by decide) (by decide) t]))
/-- Window 9's block, read in `main_v13`. -/
theorem blk_9 (t : Fin cfg0.N) (i : Fin 8) (j : Fin 20) : iblk m c 9 t (ix2 i j) = V m c main_v13 (ix2 i j) :=
  (congrArg (V m c main_v13) (by blk_ext [still 9 (by decide) (by decide) t]))
/-- Window 10's block, read in `main_cst_3`. -/
theorem blk_10 (t : Fin cfg0.N) (i : Fin 152) (j : Fin 7) : iblk m c 10 t (ix2 i j) = V m c main_cst_3 (ix2 i j) :=
  (congrArg (V m c main_cst_3) (by blk_ext [still 10 (by decide) (by decide) t]))
/-- Window 11's block, read in `main_v18`. -/
theorem blk_11 (t : Fin cfg0.N) (i : Fin 152) (j : Fin 1024) : iblk m c 11 t (ix2 i j) = V m c main_v18 (ix2 i j) :=
  (congrArg (V m c main_v18) (by blk_ext [still 11 (by decide) (by decide) t]))
/-- Window 12's block, read in `main_arg13`. -/
theorem blk_12 (t : Fin cfg0.N) (i : Fin 8) (j : Fin 128) : X0_12 m c t (ix2 i j) = m ((c : Thread nD τ).loc main_arg13) (ix2 ⟨i.1, by omega⟩ j) := by
  unfold X0_12 Pipeline.Window.fill
  rw [dif_pos (moved0_12 t _), ← V_main_arg13 m c]
  exact congrArg (V m c main_arg13) (by blk_ext [still 12 (by decide) (by decide) t])
/-- Window 13's block, read in `main_arg14`. -/
theorem blk_13 (t : Fin cfg0.N) (i : Fin 8) (j : Fin 128) : X0_13 m c t (ix2 i j) = m ((c : Thread nD τ).loc main_arg14) (ix2 ⟨i.1, by omega⟩ j) := by
  unfold X0_13 Pipeline.Window.fill
  rw [dif_pos (moved0_13 t _), ← V_main_arg14 m c]
  exact congrArg (V m c main_arg14) (by blk_ext [still 13 (by decide) (by decide) t])
/-- Window 14's block, read in `main_arg15`. -/
theorem blk_14 (t : Fin cfg0.N) (i : Fin 8) (j : Fin 128) : X0_14 m c t (ix2 i j) = m ((c : Thread nD τ).loc main_arg15) (ix2 ⟨i.1, by omega⟩ j) := by
  unfold X0_14 Pipeline.Window.fill
  rw [dif_pos (moved0_14 t _), ← V_main_arg15 m c]
  exact congrArg (V m c main_arg15) (by blk_ext [still 14 (by decide) (by decide) t])
/-- Window 15's block, read in `main_arg16`. -/
theorem blk_15 (t : Fin cfg0.N) (i : Fin 8) (j : Fin 128) : iblk m c 15 t (ix2 i j) = m ((c : Thread nD τ).loc main_arg16) (ix2 i j) :=
  (congrArg (V m c main_arg16) (by blk_ext [still 15 (by decide) (by decide) t])).trans (congrFun (V_main_arg16 m c) _)
/-- Window 16's block, read in `main_arg18`. -/
theorem blk_16 (t : Fin cfg0.N) (i : Fin 8) (j : Fin 128) : iblk m c 16 t (ix2 i j) = m ((c : Thread nD τ).loc main_arg18) (ix2 ⟨i.1, by omega⟩ j) :=
  (congrArg (V m c main_arg18) (by blk_ext [still 16 (by decide) (by decide) t])).trans (congrFun (V_main_arg18 m c) _)
/-- Window 17's block, read in `main_arg19`. -/
theorem blk_17 (t : Fin cfg0.N) (i : Fin 8) (j : Fin 128) : iblk m c 17 t (ix2 i j) = m ((c : Thread nD τ).loc main_arg19) (ix2 ⟨i.1, by omega⟩ j) :=
  (congrArg (V m c main_arg19) (by blk_ext [still 17 (by decide) (by decide) t])).trans (congrFun (V_main_arg19 m c) _)
/-- Window 18's block, read in `main_arg17`. -/
theorem blk_18 (t : Fin cfg0.N) (i : Fin 8) (j : Fin 128) : iblk m c 18 t (ix2 i j) = m ((c : Thread nD τ).loc main_arg17) (ix2 ⟨i.1, by omega⟩ j) :=
  (congrArg (V m c main_arg17) (by blk_ext [still 18 (by decide) (by decide) t])).trans (congrFun (V_main_arg17 m c) _)
/-- Window 19's block, read in `main_arg20`. -/
theorem blk_19 (t : Fin cfg0.N) (i : Fin 8) (j : Fin 128) : X0_19 m c t (ix2 i j) = m ((c : Thread nD τ).loc main_arg20) (ix2 ⟨i.1, by omega⟩ j) := by
  unfold X0_19 Pipeline.Window.fill
  rw [dif_pos (moved0_19 t _), ← V_main_arg20 m c]
  exact congrArg (V m c main_arg20) (by blk_ext [still 19 (by decide) (by decide) t])
/-- Window 20's block, read in `main_arg9`. -/
theorem blk_20 (t : Fin cfg0.N) (i : Fin 20) (j : Fin 128) : iblk m c 20 t (ix2 i j) = m ((c : Thread nD τ).loc main_arg9) (ix2 i j) :=
  (congrArg (V m c main_arg9) (by blk_ext [still 20 (by decide) (by decide) t])).trans (congrFun (V_main_arg9 m c) _)
/-- Window 21's block, read in `main_arg11`. -/
theorem blk_21 (t : Fin cfg0.N) (i : Fin 2) (j : Fin 128) : iblk m c 21 t (ix2 i j) = m ((c : Thread nD τ).loc main_arg11) (ix2 i j) :=
  (congrArg (V m c main_arg11) (by blk_ext [still 21 (by decide) (by decide) t])).trans (congrFun (V_main_arg11 m c) _)
/-- Window 22's block, read in `main_v19`. -/
theorem blk_22 (t : Fin cfg0.N) (i : Fin 1) (j : Fin 128) : iblk m c 22 t (ix2 i j) = V m c main_v19 (ix2 i j) :=
  (congrArg (V m c main_v19) (by blk_ext [still 22 (by decide) (by decide) t]))
/-- Window 23's block, read in `main_v20`. -/
theorem blk_23 (t : Fin cfg0.N) (i : Fin 1) (j : Fin 128) : iblk m c 23 t (ix2 i j) = V m c main_v20 (ix2 i j) :=
  (congrArg (V m c main_v20) (by blk_ext [still 23 (by decide) (by decide) t]))
/-- Window 24's block, read in `main_v21`. -/
theorem blk_24 (t : Fin cfg0.N) (i : Fin 1) (j : Fin 128) : iblk m c 24 t (ix2 i j) = V m c main_v21 (ix2 i j) :=
  (congrArg (V m c main_v21) (by blk_ext [still 24 (by decide) (by decide) t]))
/-- Window 25's block, read in `main_v22`. -/
theorem blk_25 (t : Fin cfg0.N) (i : Fin 1) (j : Fin 128) : iblk m c 25 t (ix2 i j) = V m c main_v22 (ix2 i j) :=
  (congrArg (V m c main_v22) (by blk_ext [still 25 (by decide) (by decide) t]))
/-- Window 26's block, read in `main_v23`. -/
theorem blk_26 (t : Fin cfg0.N) (i : Fin 1) (j : Fin 128) : iblk m c 26 t (ix2 i j) = V m c main_v23 (ix2 i j) :=
  (congrArg (V m c main_v23) (by blk_ext [still 26 (by decide) (by decide) t]))

/-! The windows of 8 times: their rows inside the array. -/

/-- The edges' window moves eight times on at each point. -/
theorem e0 : ∀ t : Fin cfg0.N, win0_0.index t = ![0, t.1, 0] := (by decide +kernel : ∀ t : Fin grid0.N, _)
/-- The edges' fetch stops at time 50. -/
theorem x0 : ∀ (t : Fin cfg0.N) (a : Fin 3), win0_0.xsize (grid0.coords t) a = ![19, min 8 (50 - 8 * t.1), 1024] a :=
  (by decide +kernel : ∀ (t : Fin grid0.N) (a : Fin 3), _)
/-- The edges' block, at a time inside the array. -/
theorem in0_at (t : Fin cfg0.N) (d) (k : Fin 19) (n : Fin 8) (b : Fin 1024) (h : 8 * t.1 + n.1 < 50) :
    in0 m c t d (ix3 k n b) = m ((c : Thread nD τ).loc main_arg0) (ix3 b ⟨8 * t.1 + n.1, h⟩ k) := by
  rw [← v3_at m c]
  unfold in0 Pipeline.Window.fill
  rw [dif_pos]
  · blk_simp [iblk]
    exact congrArg (V m c main_v3) (by blk_ext [e0])
  · refine ((cfg0.win 0).moved_iff _ _).mpr fun (a : Fin 3) => ?_
    refine lt_of_lt_of_eq ?_ (x0 t a).symm
    fin_cases a
    · exact k.2
    · show n.1 < min 8 (50 - 8 * t.1); omega
    · exact b.2
/-- The first embedding's window moves eight times on at each point. -/
theorem e1 : ∀ t : Fin cfg0.N, win0_1.index t = ![t.1, 0, 0] := (by decide +kernel : ∀ t : Fin grid0.N, _)
/-- The first embedding's fetch stops at time 50. -/
theorem x1 : ∀ (t : Fin cfg0.N) (a : Fin 3), win0_1.xsize (grid0.coords t) a = ![min 8 (50 - 8 * t.1), 1024, 128] a :=
  (by decide +kernel : ∀ (t : Fin grid0.N) (a : Fin 3), _)
/-- The first embedding's block, at a time inside the array. -/
theorem in1_at (t : Fin cfg0.N) (d) (n : Fin 8) (b : Fin 1024) (i : Fin 128) (h : 8 * t.1 + n.1 < 50) :
    in1 m c t d (ix3 n b i) = m ((c : Thread nD τ).loc main_arg1) (ix3 b ⟨8 * t.1 + n.1, h⟩ i) := by
  rw [← v1_at m c]
  unfold in1 Pipeline.Window.fill
  rw [dif_pos]
  · blk_simp [iblk]
    exact congrArg (V m c main_v1) (by blk_ext [e1])
  · refine ((cfg0.win 1).moved_iff _ _).mpr fun (a : Fin 3) => ?_
    refine lt_of_lt_of_eq ?_ (x1 t a).symm
    fin_cases a
    · show n.1 < min 8 (50 - 8 * t.1); omega
    · exact b.2
    · exact i.2
/-- The second embedding's window moves eight times on at each point. -/
theorem e2 : ∀ t : Fin cfg0.N, win0_2.index t = ![t.1, 0, 0] := (by decide +kernel : ∀ t : Fin grid0.N, _)
/-- The second embedding's fetch stops at time 50. -/
theorem x2 : ∀ (t : Fin cfg0.N) (a : Fin 3), win0_2.xsize (grid0.coords t) a = ![min 8 (50 - 8 * t.1), 1024, 128] a :=
  (by decide +kernel : ∀ (t : Fin grid0.N) (a : Fin 3), _)
/-- The second embedding's block, at a time inside the array. -/
theorem in2_at (t : Fin cfg0.N) (d) (n : Fin 8) (b : Fin 1024) (i : Fin 128) (h : 8 * t.1 + n.1 < 50) :
    in2 m c t d (ix3 n b i) = m ((c : Thread nD τ).loc main_arg2) (ix3 b ⟨8 * t.1 + n.1, h⟩ i) := by
  rw [← v2_at m c]
  unfold in2 Pipeline.Window.fill
  rw [dif_pos]
  · blk_simp [iblk]
    exact congrArg (V m c main_v2) (by blk_ext [e2])
  · refine ((cfg0.win 2).moved_iff _ _).mpr fun (a : Fin 3) => ?_
    refine lt_of_lt_of_eq ?_ (x2 t a).symm
    fin_cases a
    · show n.1 < min 8 (50 - 8 * t.1); omega
    · exact b.2
    · exact i.2

/-- The stacked tables of a block are the embeddings. -/
theorem tab_blk (t : Fin cfg0.N) (k : Fin 10) (v : Fin 8) (d : Fin 128) :
    tab (iblk m c 8 t) (iblk m c 9 t) (X0_12 m c t) (X0_13 m c t) (X0_14 m c t) (iblk m c 15 t) (iblk m c 16 t) (iblk m c 17 t) (iblk m c 18 t)
      (X0_19 m c t) (iblk m c 20 t) (iblk m c 21 t) k v d
    = emb (m ((c : Thread nD τ).loc main_arg9)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) k v d := by
  obtain ⟨k, hk⟩ := k
  interval_cases k <;> dsimp only [tab, emb]
  · exact blk_12 m c t v d
  · exact blk_13 m c t v d
  · exact blk_14 m c t v d
  · exact blk_15 m c t v d
  · exact blk_16 m c t v d
  · exact blk_17 m c t v d
  · exact blk_18 m c t v d
  · exact blk_19 m c t v d
  · exact Finset.sum_congr rfl fun q _ => congrArg₂ (· * ·) ((blk_8 m c t v q).trans (cst_2_at m c v q)) (blk_21 m c t q d)
  · exact Finset.sum_congr rfl fun q _ => congrArg₂ (· * ·) ((blk_9 m c t v q).trans (v13_at m c v q)) (blk_20 m c t q d)

/-- A block's row inside the array, whatever the rows past the array's end hold. -/
theorem outAt_value (t : Fin cfg0.N) (d0 d1 d2) (n : Fin 8) (b : Fin 1024) (d : Fin 128) (h : 8 * t.1 + n.1 < 50) (e : Fin 19 → Fin 8)
    (he : ∀ k, m ((c : Thread nD τ).loc main_arg0) (ix3 b ⟨8 * t.1 + n.1, h⟩ k) = BitVec.ofNat 32 (e k).1) :
    outAt m c t d0 d1 d2 (ix3 n b d) = spec (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) e b ⟨8 * t.1 + n.1, h⟩ d := by
  have hs := slab_value (in0 m c t d0) (in1 m c t d1) (in2 m c t d2) (iblk m c 3 t) (iblk m c 4 t) (iblk m c 5 t) (iblk m c 6 t) (iblk m c 7 t)
    (iblk m c 8 t) (iblk m c 9 t) (iblk m c 10 t) (iblk m c 11 t) (X0_12 m c t) (X0_13 m c t) (X0_14 m c t) (iblk m c 15 t) (iblk m c 16 t)
    (iblk m c 17 t) (iblk m c 18 t) (X0_19 m c t) (iblk m c 20 t) (iblk m c 21 t) (iblk m c 22 t) (iblk m c 23 t) (iblk m c 24 t)
    (iblk m c 25 t) (iblk m c 26 t) e n b
    (fun k => (in0_at m c t d0 k n b h).trans (he k))
    (fun k t' r => (blk_6 m c t _ _).trans (cst_0_at m c n k t' r))
    (fun r hr => (blk_7 m c t _ _).trans (v0_at m c n r hr))
    (fun k t' j => (blk_10 m c t _ _).trans (cst_3_at m c k t' j))
    (fun k t' r => (blk_11 m c t _ _).trans (v18_at m c n k t' r)) d
  refine Eq.trans ?_ (hs.trans ?_)
  · unfold outAt outBlk
    rw [show flat (ix3 n b d) = ix3 0 b d from funext fun a => by fin_cases a <;> rfl]
    rfl
  · unfold spec
    refine congrArg₂ (· + ·) (congrArg₂ (· + ·) (congrArg₂ (· + ·) ?_ ?_) (congrArg₂ (· + ·) ?_ ?_)) (congrArg₂ (· + ·) (congrArg₂ (· + ·) (congrArg₂ (· + ·) (congrArg₂ (· + ·) ?_ ?_) ?_) ?_) ?_)
    · exact Finset.sum_congr rfl fun k _ => tab_blk m c t k _ d
    · exact Finset.sum_congr rfl fun j _ => congrArg₂ (· * ·) rfl (blk_5 m c t j d)
    · exact Finset.sum_congr rfl fun i _ => congrArg₂ (· * ·) (in1_at m c t d1 n b i h) (blk_3 m c t i d)
    · exact Finset.sum_congr rfl fun i _ => congrArg₂ (· * ·) (in2_at m c t d2 n b i h) (blk_4 m c t i d)
    · exact (blk_22 m c t 0 d).trans (v19_at m c d)
    · exact (blk_23 m c t 0 d).trans (v20_at m c d)
    · exact (blk_24 m c t 0 d).trans (v21_at m c d)
    · exact (blk_25 m c t 0 d).trans (v22_at m c d)
    · exact (blk_26 m c t 0 d).trans (v23_at m c d)

end Cert.KernelIdeal.Hand
-- ==== Proof.Result.lean ====
module

public import proofs.«01_k».proof.Proof.Blocks
public import Idealize.ShloMosaic.Lib.Claim

/-! The result array of the idealized kernel's run, of edges that are all below eight. -/

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (E : Dev nD → Fin 1024 → Fin 50 → Fin 19 → Fin 8)

/-- The sum of everything embedded at batch `b`, time `s`, lane `d`, of the launch's argument arrays. -/
def total (c : Dev nD) (b : Fin 1024) (s : Fin 50) (d : Fin 128) : EReal :=
  spec (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (E c b s) b s d

/-- The region's result array: time first. -/
def timeFirst (c : Dev nD) : S50x1024x128.Idx → EReal := fun i => total m E c (i 1) (i 0) (i 2)

/-- The program's result array: batch first. -/
def batchFirst (c : Dev nD) : S1024x50x128.Idx → EReal := fun i => total m E c (i 0) (i 1) (i 2)

/-- The block the body leaves at each point, its fetches' tails filled in some way. -/
def left27 (c : Dev nD) (t : Fin cfg0.N) : Vec Ideal S8x1024x128 .f32 := outAt m c t pad0 pad1 pad2

/-- The result's window moves eight times on at each point. -/
theorem e27 : ∀ t : Fin cfg0.N, win0_27.index t = ![t.1, 0, 0] := (by decide +kernel : ∀ t : Fin grid0.N, _)
/-- Its write-back stops at time 50. -/
theorem x27 : ∀ (t : Fin cfg0.N) (a : Fin 3), win0_27.xsize (grid0.coords t) a = ![min 8 (50 - 8 * t.1), 1024, 128] a :=
  (by decide +kernel : ∀ (t : Fin grid0.N) (a : Fin 3), _)

variable (hE : ∀ (c : Dev nD) b s k, m ((c : Thread nD τ).loc main_arg0) (ix3 b s k) = BitVec.ofNat 32 (E c b s k).1)

include hE in
/-- What is written back of a block is the total at its place in the array, whatever the tails held. -/
theorem moved_value (c : Dev nD) (t : Fin cfg0.N) (d0 d1 d2) (y : ((cfg0.win 27).xblock (cfg0.grid.coords t)).Idx) :
    outAt m c t d0 d1 d2 ((cfg0.win 27).xinj (cfg0.grid.coords t) y) = timeFirst m E c (((cfg0.win 27).blk t).view.emb y) := by
  have hy0 : (y (0 : Fin 3)).1 < min 8 (50 - 8 * t.1) := lt_of_lt_of_eq (y (0 : Fin 3)).2 (x27 t 0)
  have hy1 : (y (1 : Fin 3)).1 < 1024 := lt_of_lt_of_eq (y (1 : Fin 3)).2 (x27 t 1)
  have hy2 : (y (2 : Fin 3)).1 < 128 := lt_of_lt_of_eq (y (2 : Fin 3)).2 (x27 t 2)
  obtain ⟨n, hn⟩ : ∃ n : Fin 8, n.1 = (y (0 : Fin 3)).1 := ⟨⟨(y (0 : Fin 3)).1, lt_of_lt_of_le hy0 (Nat.min_le_left _ _)⟩, rfl⟩
  obtain ⟨b, hb⟩ : ∃ b : Fin 1024, b.1 = (y (1 : Fin 3)).1 := ⟨⟨_, hy1⟩, rfl⟩
  obtain ⟨d, hd⟩ : ∃ d : Fin 128, d.1 = (y (2 : Fin 3)).1 := ⟨⟨_, hy2⟩, rfl⟩
  have hr : n.1 < 50 - 8 * t.1 := hn ▸ lt_of_lt_of_le hy0 (Nat.min_le_right _ _)
  have h : 8 * t.1 + n.1 < 50 := by omega
  have hx : (cfg0.win 27).xinj (cfg0.grid.coords t) y = ix3 n b d := by
    funext a
    refine Fin.ext ?_
    match a with
    | ⟨0, _⟩ => exact hn.symm
    | ⟨1, _⟩ => exact hb.symm
    | ⟨2, _⟩ => exact hd.symm
  have he : ((cfg0.win 27).blk t).view.emb y = ix3 ⟨8 * t.1 + n.1, h⟩ b d := by
    blk_ext [e27]
  rw [hx, he]
  exact (outAt_value m c t d0 d1 d2 n b d h (E c b ⟨8 * t.1 + n.1, h⟩) (hE c b _)).trans rfl

include hE in
/-- The region's result array after the run. -/
theorem final_27 (c : Dev nD) : (dats m (left27 m) 0 c).arrAt 27 cfg0.N = timeFirst m E c := by
  refine (dats m (left27 m) 0 c).arrAt_eq_of_covers 27 (timeFirst m E c) (by decide +kernel) fun t hf y => ?_
  rw [after_27]
  exact moved_value m E hE c t pad0 pad1 pad2 y

include hE in
/-- The host's last line turns the region's result into the program's. -/
theorem tail_value (c : Dev nD) :
    Pipeline.afterTail₀ cfgs (dats m (left27 m)) 0 (V0 m) [hostOps1] c main_v25 = batchFirst m E c := by
  unfold Pipeline.afterTail₀
  have hw := (Pipeline.withArrays_arr spec0 launch0.win.arr_inj c (V0 m c) (fun w => (dats m (left27 m) 0 c).arrAt w cfg0.N) 27).trans (final_27 m E hE c)
  have ht : StableHlo.after (List.flatten [hostOps1]) (Pipeline.withArrays spec0 c (V0 m c) fun w => (dats m (left27 m) 0 c).arrAt w cfg0.N) (Proc.devRef .tc main_v25)
      = transpose S1024x50x128 [1, 0, 2] (Pipeline.withArrays spec0 c (V0 m c) (fun w => (dats m (left27 m) 0 c).arrAt w cfg0.N) (Proc.devRef .tc main_v24)) transposes_S50x1024x128_S1024x50x128_1_0_2 := by
    simp only [List.flatten_cons, List.flatten_nil, List.append_nil, hostOps1]
    after_results_simp
    try rfl
  refine ht.trans ((congrArg (fun x => transpose S1024x50x128 [1, 0, 2] x transposes_S50x1024x128_S1024x50x128_1_0_2) hw).trans ?_)
  funext i
  rw [show i = ix3 (i 0) (i 1) (i 2) from by funext a; match a with | ⟨0, _⟩ => rfl | ⟨1, _⟩ => rfl | ⟨2, _⟩ => rfl]
  pointwise [timeFirst, batchFirst]

include hE in
/-- The run of the idealized kernel, every block's write-back named. -/
theorem run_left : θ_run defs (onTc (τ := τ) (main (F := Ideal))) (s₀ m ρ)
    (Pipeline.FramePost cfgs (dats m (left27 m)) 0 (Pipeline.afterTail₀ cfgs (dats m (left27 m)) 0 (V0 m) [hostOps1])) :=
  run_exact m (left27 m) (by
    intro c t d0 d1 d2
    funext y
    exact (moved_value m E hE c t d0 d1 d2 y).trans (moved_value m E hE c t pad0 pad1 pad2 y).symm)

include hE in
/-- The idealized kernel's run ends with the total in the result array. -/
theorem run_value : θ_run defs (onTc (τ := τ) (main (F := Ideal))) ⟨m, fun _ => 0, ρ⟩ (fun r => ∀ c : Dev nD,
    r.2.mem ((c.tc : Thread nD τ).loc main_v25) = batchFirst m E c) := by
  refine (θ_run defs _ _).mono (fun r h c => ?_) (run_left m ρ E hE)
  exact (h.rest_eq c main_v25 (Pipeline.mem_restRefs_of main_v25 (by decide) (by decide))).trans (tail_value m E hE c)

end Cert.KernelIdeal.Hand

end
-- ==== Proof.RefFeat.lean ====
module

public import proofs.«01_k».proof.Proof.Gen.ReferenceIdeal.Run
public import proofs.«01_k».proof.Proof.Blocks
public import Idealize.ShloMosaic.Lib.Pointwise

/-! The damage features and the side's bits of the reference, read at an index. -/

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Cert.KernelIdeal.Hand (feat quo sideBit bit_one bit_zero)

/-- Each word of the damage column over 1023. -/
def over (E : IVec S1024x50 32) : FVec Ideal S1024x50 .f32 :=
  Host.divf (sitofp .f32 E) (broadcastInDim S1024x50 ![] bcast_S_S1024x50 (constant S_ .f32 0x447FC000#32))

/-- The bin of each damage word: 17 for the word zero. -/
def bin (E : IVec S1024x50 32) : FVec Ideal S1024x50 .f32 :=
  select (cmpi .eq E (broadcastInDim S1024x50 ![] bcast_S_S1024x50 (constantI S_ 32 0#32)))
    (broadcastInDim S1024x50 ![] bcast_S_S1024x50 (sitofp .f32 (constantI S_ 32 17#32)))
    (Host.floor (Host.divf (sitofp .f32 (addi E (broadcastInDim S1024x50 ![] bcast_S_S1024x50 (constantI S_ 32 1023#32))))
      (broadcastInDim S1024x50 ![] bcast_S_S1024x50 (constant S_ .f32 0x43000000#32))))

/-- The one-hot row of each damage word's bin. -/
def hot (E : IVec S1024x50 32) : FVec Ideal S1024x50x17 .f32 :=
  uitofp .f32 (cmpf .oeq (broadcastInDim S1024x50x17 ![0, 1, 2] bcast_S1024x50x1_S1024x50x17_0_1_2
      (id (broadcastInDim S1024x50x1 ![0, 1] bcast_S1024x50_S1024x50x1_0_1 (bin E))))
    (broadcastInDim S1024x50x17 ![0, 1, 2] bcast_S1x1x17_S1024x50x17_0_1_2 (sitofp .f32 (iotaInDim S1x1x17 32 2))))

/-- The twenty damage features. -/
def damage (E : IVec S1024x50 32) : FVec Ideal S1024x50x20 .f32 :=
  concatenate S1024x50x20 2
    [⟨S1024x50x1, id (broadcastInDim S1024x50x1 ![0, 1] bcast_S1024x50_S1024x50x1_0_1 (over E))⟩,
     ⟨S1024x50x1, id (broadcastInDim S1024x50x1 ![0, 1] bcast_S1024x50_S1024x50x1_0_1 (Host.absf (over E)))⟩,
     ⟨S1024x50x1, broadcastInDim S1024x50x1 ![0, 1] bcast_S1024x50_S1024x50x1_0_1 (sitofp .f32 (signi E))⟩,
     ⟨S1024x50x17, hot E⟩] concatenates_S1024x50x1_S1024x50x1_S1024x50x1_S1024x50x17_S1024x50x20_d2

/-- The two bits of each side word. -/
def bits (E : IVec S1024x50 32) : FVec Ideal S1024x50x2 .f32 :=
  uitofp .f32 (cmpi .ne (andi (broadcastInDim S1024x50x2 ![0, 1, 2] bcast_S1024x50x1_S1024x50x2_0_1_2
      (broadcastInDim S1024x50x1 ![0, 1] bcast_S1024x50_S1024x50x1_0_1 E))
    (broadcastInDim S1024x50x2 ![0, 1, 2] bcast_S1x1x2_S1024x50x2_0_1_2
      (broadcastInDim S1x1x2 ![2] bcast_S2_S1x1x2_2 ((fun i => lit0 (S2.rowMajor i))))))
    (broadcastInDim S1024x50x2 ![] bcast_S_S1024x50x2 (constantI S_ 32 0#32)))

variable (E : IVec S1024x50 32) (b : Fin 1024) (s : Fin 50) (v : Fin 8) (h : E (ix2 b s) = BitVec.ofNat 32 v.1)

include h in
/-- A word over 1023. -/
theorem over_at : over E (ix2 b s) = quo v := by
  unfold over quo
  pointwise []
  rw [h]

/-- The pattern of 128. -/
theorem ofBits_128 : Ideal.ofBits .f32 0x43000000#32 = ((128 : ℝ) : EReal) := by
  simp [Ideal.ofBits, Ideal.ieee, -EReal.coe_mul]; norm_num

/-- The bin of a word from one to seven, moved by 1023: eight. -/
theorem bin_eight (r : ℝ) (h1 : 1024 ≤ r) (h2 : r < 1152) :
    Ideal.liftRound Int.floor (Ideal.div (r : EReal) ((128 : ℝ) : EReal)) = ((8 : ℝ) : EReal) := by
  have hd : Ideal.div (r : EReal) ((128 : ℝ) : EReal) = ((r * (128 : ℝ)⁻¹ : ℝ) : EReal) := by
    unfold Ideal.div
    rw [if_neg (by norm_num), EReal.coe_mul, EReal.coe_inv]
  have hf : ⌊r * (128 : ℝ)⁻¹⌋ = 8 := by
    rw [Int.floor_eq_iff]
    constructor
    · norm_num; linarith
    · norm_num; linarith
  rw [hd]
  show ((⌊r * (128 : ℝ)⁻¹⌋ : ℝ) : EReal) = _
  rw [hf]
  norm_num

include h in
/-- The bin of a word below eight: the word zero has the bin past the last, every other has bin eight. -/
theorem bin_at : bin E (ix2 b s) = if v = 0 then ((17 : ℝ) : EReal) else ((8 : ℝ) : EReal) := by
  unfold bin
  pointwise []
  rw [h]
  have hc : ∀ v : Fin 8, IntOp.cmpi .eq (BitVec.ofNat 32 v.1) 0#32 = if v = 0 then 1#1 else 0#1 := by decide
  have ha : ∀ v : Fin 8, (IntOp.addi (BitVec.ofNat 32 v.1) 1023#32).toInt = 1023 + (v.1 : ℤ) := by decide
  rw [hc v]
  by_cases hv : v = 0
  · rw [if_pos hv, if_pos hv]
    show (((17#32 : BitVec 32).toInt : ℝ) : EReal) = _
    rw [show (17#32 : BitVec 32).toInt = 17 by decide]
    norm_num
  · rw [if_neg hv, if_neg hv]
    show Ideal.liftRound Int.floor (Ideal.div (((IntOp.addi (BitVec.ofNat 32 v.1) 1023#32).toInt : ℝ) : EReal) (Ideal.ofBits FTy.f32 1124073472#32)) = _
    rw [ha v, ofBits_128]
    have h1 : 1 ≤ v.1 := Nat.one_le_iff_ne_zero.mpr fun h0 => hv (Fin.ext h0)
    have h2 : v.1 ≤ 7 := by omega
    have h1' : (1 : ℝ) ≤ (v.1 : ℝ) := by exact_mod_cast h1
    have h2' : (v.1 : ℝ) ≤ 7 := by exact_mod_cast h2
    exact bin_eight _ (by push_cast; linarith) (by push_cast; linarith)

include h in
/-- The one-hot row: entry eight alone, of a word that isn't zero. -/
theorem hot_at (q : Fin 17) : hot E (ix3 b s q) = if v ≠ 0 ∧ q.1 = 8 then 1 else 0 := by
  unfold hot
  simp only [id]
  pointwise []
  rw [bin_at E b s v h]
  have hq : ∀ q : Fin 17, (BitVec.ofNat 32 q.1).toInt = (q.1 : ℤ) := by decide
  have hs : FloatOps.sitofp (F := Ideal) .f32 (BitVec.ofNat 32 q.1) = ((q.1 : ℝ) : EReal) := by
    show (((BitVec.ofNat 32 q.1).toInt : ℝ) : EReal) = _
    rw [hq q]
    norm_cast
  rw [hs]
  have hd : ((if v = 0 then ((17 : ℝ) : EReal) else ((8 : ℝ) : EReal)) = ((q.1 : ℝ) : EReal)) ↔ (v ≠ 0 ∧ q.1 = 8) := by
    by_cases hv : v = 0
    · rw [if_pos hv, EReal.coe_eq_coe_iff]
      constructor
      · intro e
        have e' : 17 = q.1 := by exact_mod_cast e
        have := q.2
        omega
      · exact fun e => absurd hv e.1
    · rw [if_neg hv, EReal.coe_eq_coe_iff]
      constructor
      · intro e
        have e' : 8 = q.1 := by exact_mod_cast e
        exact ⟨hv, e'.symm⟩
      · intro e
        rw [e.2]
        norm_num
  by_cases hp : v ≠ 0 ∧ q.1 = 8
  · rw [if_pos hp, decide_eq_true (hd.2 hp)]
    exact bit_one
  · rw [if_neg hp, decide_eq_false (fun e => hp (hd.1 e))]
    exact bit_zero

/-- The sign of a word below eight. -/
theorem sign_at : FloatOps.sitofp (F := Ideal) .f32
    (if BitVec.ofNat 32 v.1 = 0 then (0 : BitVec 32) else if (BitVec.ofNat 32 v.1).msb = true then -1 else 1) = if v ≠ 0 then (1 : EReal) else 0 := by
  have hc : ∀ v : Fin 8, (if BitVec.ofNat 32 v.1 = 0 then (0 : BitVec 32) else if (BitVec.ofNat 32 v.1).msb = true then -1 else 1).toInt
      = if v ≠ 0 then 1 else 0 := by decide
  show (((if BitVec.ofNat 32 v.1 = 0 then (0 : BitVec 32) else if (BitVec.ofNat 32 v.1).msb = true then -1 else 1).toInt : ℝ) : EReal) = _
  rw [hc v]
  split <;> norm_num

include h in
/-- The damage features of a word below eight. -/
theorem damage_at (q : Fin 20) : damage E (ix3 b s q) = feat v q := by
  unfold damage feat
  simp only [id]
  pointwise []
  split
  · exact over_at E b s v h
  split
  · rw [over_at E b s v h]
  have hq : q.1 < 20 := q.2
  split
  · rw [h]
    refine (sign_at v).trans ?_
    exact if_congr (by constructor <;> intro e <;> first | exact e.1 | exact ⟨e, by omega⟩) rfl rfl
  · rw [hot_at E b s v h]
    exact if_congr (by constructor <;> rintro ⟨e1, e2⟩ <;> refine ⟨e1, ?_⟩ <;> simp only at * <;> omega) rfl rfl

include h in
/-- The two bits of a word below eight. -/
theorem bits_at (q : Fin 2) : bits E (ix3 b s q) = sideBit v q := by
  unfold bits sideBit
  pointwise []
  rw [h]
  have hl : lit0 (S2.rowMajor (ix1 q)) = BitVec.ofNat 32 (q.1 + 1) := by
    rw [show S2.rowMajor (ix1 q) = q from Fin.ext (Shape.rowMajor_val_one _)]
    fin_cases q <;> rfl
  rw [hl]
  have hc : ∀ (v : Fin 8) (q : Fin 2), IntOp.cmpi .ne (IntOp.andi (BitVec.ofNat 32 v.1) (BitVec.ofNat 32 (q.1 + 1))) 0#32
      = if BitVec.ofNat 32 v.1 &&& BitVec.ofNat 32 (q.1 + 1) = 0#32 then 0#1 else 1#1 := by decide
  rw [hc v q]
  split
  · exact bit_zero
  · exact bit_one

end Cert.ReferenceIdeal.Hand

end
-- ==== Proof.RefGather.lean ====
module

public import proofs.«01_k».proof.Proof.Gen.ReferenceIdeal.Run
public import Idealize.ShloMosaic.Lib.Pointwise

/-! The lookups of the reference, read at an index: a row of a table at each batch and time. -/

@[expose] public section

set_option maxRecDepth 16384

noncomputable section

namespace Cert.ReferenceIdeal.Hand

open Cert.ReferenceIdeal Cert.ReferenceIdeal.Gen Idealize.ShloMosaic

/-- The lookup of one row of 128 lanes per batch and time, in a table of `N` rows. -/
def rowDims (N : ℕ) (wf : GatherDims.WF ⟨2, ![N, 128]⟩ ⟨3, ![1024, 50, 1]⟩ ⟨3, ![1024, 50, 128]⟩ [2] [0] [] [0] [] 2 ![1, 128]) :
    GatherDims ⟨2, ![N, 128]⟩ ⟨3, ![1024, 50, 1]⟩ ⟨3, ![1024, 50, 128]⟩ where
  offsetDims := [2]
  collapsedSliceDims := [0]
  operandBatchingDims := []
  startIndicesBatchingDims := []
  startIndexMap := [0]
  indexVectorDim := 2
  sliceSizes := ![1, 128]
  wf := wf

/-- A word below eight read as a signed integer. -/
theorem word_toInt (v : Fin 8) : (BitVec.ofNat 32 v.1).toInt = (v.1 : ℤ) := by
  fin_cases v <;> rfl

/-- A lookup whose word is `v`, one of the table's first eight rows, reads row `v`. -/
theorem row_at {N : ℕ} (hN : 8 ≤ N) (wf) (x : (⟨2, ![N, 128]⟩ : Shape).Idx → EReal) (idx : IVec ⟨3, ![1024, 50, 1]⟩ 32)
    (b : Fin 1024) (s : Fin 50) (d : Fin 128) (v : Fin 8) (h : idx (ix3 b s 0) = BitVec.ofNat 32 v.1) :
    Host.gather (rowDims N wf) x idx (ix3 b s d) = x (ix2 (Fin.castLE hN v) d) := by
  unfold Host.gather
  congr 1
  funext a
  refine Fin.ext ?_
  show (rowDims N wf).start (ix3 b s d) idx a + (rowDims N wf).batchCoord (ix3 b s d) a + (rowDims N wf).offCoord (ix3 b s d) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b s d) ⟨List.idxOf (0 : Fin 2) (rowDims N wf).startIndexMap,
        List.idxOf_lt_length_iff.2 (List.mem_singleton.mpr rfl)⟩ = ix3 b s 0 := by
      funext q; refine Fin.ext ?_
      match q with
      | ⟨0, _⟩ => rfl
      | ⟨1, _⟩ => rfl
      | ⟨2, _⟩ => rfl
    rw [hsi, h, word_toInt]
    show min (v.1 : ℤ).toNat (N - 1) = v.1
    have := v.2
    omega
  · have hs : (rowDims N wf).start (ix3 b s d) idx (1 : Fin 2) = 0 := by
      unfold GatherDims.start
      rw [dif_neg (show ¬ (1 : Fin 2) ∈ (rowDims N wf).startIndexMap from by
        show ¬ (1 : Fin 2) ∈ [(0 : Fin 2)]
        decide)]
    have ho : (rowDims N wf).offCoord (ix3 b s d) (1 : Fin 2) = d.1 := by
      unfold GatherDims.offCoord
      rw [dif_pos ((GatherDims.mem_sKept _ _).mpr ⟨by
        show ¬ (1 : Fin 2) ∈ [(0 : Fin 2)]
        decide, List.not_mem_nil⟩)]
      rfl
    rw [hs, ho]
    show 0 + 0 + d.1 = d.1
    omega

/-- A word below eight is not negative, so a lookup's index word is the word itself. -/
theorem wrap_at (E : IVec S1024x50 32) (K : BitVec 32) (b : Fin 1024) (s : Fin 50) (v : Fin 8)
    (h : E (ix2 b s) = BitVec.ofNat 32 v.1) :
    broadcastInDim S1024x50x1 ![0, 1] bcast_S1024x50_S1024x50x1_0_1
      (select (cmpi .slt E (broadcastInDim S1024x50 ![] bcast_S_S1024x50 (constantI S_ 32 0#32)))
        (addi E (broadcastInDim S1024x50 ![] bcast_S_S1024x50 (constantI S_ 32 K))) E) (ix3 b s 0) = BitVec.ofNat 32 v.1 := by
  pointwise []
  rw [h]
  fin_cases v <;> rfl

end Cert.ReferenceIdeal.Hand

end
-- ==== Proof.RefValue.lean ====
module

public import proofs.«01_k».proof.Proof.RefFeat
public import proofs.«01_k».proof.Proof.RefGather

/-! The reference's result, read at an index, of edges that are all below eight. -/

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe
open Cert.KernelIdeal.Hand (feat quo sideBit num emb spec c2 c12 le919 le500 le350 le32 le128 le16 le20)

/-- The sum of two vectors, read at an index at which both are known. -/
theorem addf_at {S : Shape} {x y : FVec Ideal S .f32} {j : S.Idx} {a b : EReal} (hx : x j = a) (hy : y j = b) :
    addf x y j = a + b := by
  rw [← hx, ← hy]
  rfl

/-- A bias, read at an index. -/
theorem bias_at (x : FVec Ideal S128 .f32) (b : Fin 1024) (s : Fin 50) (d : Fin 128) :
    broadcastInDim S1024x50x128 ![0, 1, 2] bcast_S1x1x128_S1024x50x128_0_1_2 (broadcastInDim S1x1x128 ![2] bcast_S128_S1x1x128_2 x) (ix3 b s d)
      = x (ix1 d) := by
  pointwise []

/-- A layer of 128 features. -/
theorem dot128_at (x : FVec Ideal S1024x50x128 .f32) (w : FVec Ideal S128x128 .f32) (b : Fin 1024) (s : Fin 50) (d : Fin 128) :
    Host.dotGeneral dot_S1024x50x128_S128x128_S1024x50x128_2_0_01_1_n_n none x w (ix3 b s d) = ∑ q : Fin 128, x (ix3 b s q) * w (ix2 q d) := by
  pointwise []

/-- A layer of 20 features. -/
theorem dot20_at (x : FVec Ideal S1024x50x20 .f32) (w : FVec Ideal S20x128 .f32) (b : Fin 1024) (s : Fin 50) (d : Fin 128) :
    Host.dotGeneral dot_S1024x50x20_S20x128_S1024x50x128_2_0_01_1_n_n none x w (ix3 b s d) = ∑ q : Fin 20, x (ix3 b s q) * w (ix2 q d) := by
  pointwise []

/-- A layer of seven features. -/
theorem dot7_at (x : FVec Ideal S1024x50x7 .f32) (w : FVec Ideal S7x128 .f32) (b : Fin 1024) (s : Fin 50) (d : Fin 128) :
    Host.dotGeneral dot_S1024x50x7_S7x128_S1024x50x128_2_0_01_1_n_n none x w (ix3 b s d) = ∑ q : Fin 7, x (ix3 b s q) * w (ix2 q d) := by
  pointwise []

/-- A layer of two features. -/
theorem dot2_at (x : FVec Ideal S1024x50x2 .f32) (w : FVec Ideal S2x128 .f32) (b : Fin 1024) (s : Fin 50) (d : Fin 128) :
    Host.dotGeneral dot_S1024x50x2_S2x128_S1024x50x128_2_0_01_1_n_n none x w (ix3 b s d) = ∑ q : Fin 2, x (ix3 b s q) * w (ix2 q d) := by
  pointwise []

/-- A vector kept where a column's word isn't negative, and the word is below eight. -/
theorem masked_at (E : IVec S1024x50 32) (x : FVec Ideal S1024x50x128 .f32) (b : Fin 1024) (s : Fin 50) (d : Fin 128) (v : Fin 8)
    (h : E (ix2 b s) = BitVec.ofNat 32 v.1) :
    select (broadcastInDim S1024x50x128 ![0, 1, 2] bcast_S1024x50x1_S1024x50x128_0_1_2 (broadcastInDim S1024x50x1 ![0, 1] bcast_S1024x50_S1024x50x1_0_1
        (cmpi .sge E (broadcastInDim S1024x50 ![] bcast_S_S1024x50 (constantI S_ 32 0#32))))) x
      (broadcastInDim S1024x50x128 ![] bcast_S_S1024x50x128 (id (constant S_ .f32 0x00000000#32))) (ix3 b s d) = x (ix3 b s d) := by
  simp only [id]
  pointwise []
  rw [h]
  have hc : ∀ v : Fin 8, IntOp.cmpi .sge (BitVec.ofNat 32 v.1) 0#32 = 1#1 := by decide
  rw [hc v]
  rfl

/-- A column of the edges. -/
theorem column_at (A : IVec S1024x50x19 32) (k : ℕ) (hk : k < 19) (hs) (b : Fin 1024) (s : Fin 50) :
    shapeCast S1024x50 (extractStridedSlice S1024x50x1 ![0, 0, k] A hs) shapeCasts_S1024x50x1_S1024x50 (ix2 b s) = A (ix3 b s ⟨k, hk⟩) := by
  pointwise []

/-- The seven boost words, as numbers. -/
theorem boosts_at (A : IVec S1024x50x19 32) (b : Fin 1024) (s : Fin 50) (j : Fin 7) (v : Fin 8)
    (h : A (ix3 b s (c12 j)) = BitVec.ofNat 32 v.1) :
    sitofp (F := Ideal) .f32 (extractStridedSlice S1024x50x7 ![0, 0, 12] A slices_S1024x50x19_S1024x50x7_0_0_12) (ix3 b s j) = num v := by
  pointwise []
  show (((A (ix3 b s (c12 j))).toInt : ℝ) : EReal) = _
  rw [h, word_toInt, num]
  norm_cast

/-- A sum over ten. -/
theorem sum_ten (f : Fin 10 → EReal) : ∑ k, f k = f 0 + f 1 + f 2 + f 3 + f 4 + f 5 + f 6 + f 7 + f 8 + f 9 := by
  simp only [Fin.sum_univ_castSucc, Fin.sum_univ_zero, zero_add]
  rfl

/-- The two orders in which the eighteen summands are added. -/
theorem reorder (p1 b4 p2 b6 mv it ab st bo b8 da b10 tu ty mj mn si b12 : EReal) :
    p1 + b4 + (p2 + b6) + mv + it + ab + st + (bo + b8) + (da + b10) + tu + ty + mj + mn + (si + b12)
      = mv + it + ab + st + mj + mn + ty + tu + si + da + bo + (p1 + p2) + (b4 + b6 + b8 + b10 + b12) := by
  ac_rfl

variable (V0 : Valuation τ sig (Elt Ideal)) (e : Fin 19 → Fin 8) (b : Fin 1024) (s : Fin 50)
  (h : ∀ k, V0 (Proc.devRef .tc main_arg0) (ix3 b s k) = BitVec.ofNat 32 (e k).1)

include h in
/-- The reference's result, read at an index. -/
theorem ref_at (d : Fin 128) : val4 V0 (Proc.devRef .tc main_v152) (ix3 b s d)
    = spec (V0 (Proc.devRef .tc main_arg1)) (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7)) (V0 (Proc.devRef .tc main_arg8))
      (V0 (Proc.devRef .tc main_arg9)) (V0 (Proc.devRef .tc main_arg10)) (V0 (Proc.devRef .tc main_arg11)) (V0 (Proc.devRef .tc main_arg12))
      (V0 (Proc.devRef .tc main_arg13)) (V0 (Proc.devRef .tc main_arg14)) (V0 (Proc.devRef .tc main_arg15)) (V0 (Proc.devRef .tc main_arg16))
      (V0 (Proc.devRef .tc main_arg17)) (V0 (Proc.devRef .tc main_arg18)) (V0 (Proc.devRef .tc main_arg19)) (V0 (Proc.devRef .tc main_arg20)) e b s d := by
  have c (k : ℕ) (hk : k < 19) (hs) := (column_at (V0 (Proc.devRef .tc main_arg0)) k hk hs b s).trans (h ⟨k, hk⟩)
  have hb := bits_at _ b s _ (c 10 (by omega) slices_S1024x50x19_S1024x50x1_0_0_10)
  have hf := damage_at (res_main_v90 V0) b s _ (c 11 (by omega) slices_S1024x50x19_S1024x50x1_0_0_11)
  unfold bits at hb
  unfold damage hot bin over at hf
  rw [val4_main_v152]
  unfold res_main_v146
  refine Eq.trans (addf_at (addf_at (addf_at (addf_at (addf_at (addf_at (addf_at (addf_at (addf_at (addf_at (addf_at (addf_at
    (addf_at ((dot128_at _ _ b s d).trans (Finset.sum_congr rfl fun q _ => congrArg (· * _) (masked_at _ _ b s q _ (c 0 (by omega) _)))) (bias_at _ b s d))
    (addf_at ((dot128_at _ _ b s d).trans (Finset.sum_congr rfl fun q _ => congrArg (· * _) (masked_at _ _ b s q _ (c 1 (by omega) _)))) (bias_at _ b s d)))
    (row_at le919 _ _ _ b s d _ (wrap_at _ _ b s _ (c 2 (by omega) _))))
    (row_at le500 _ _ _ b s d _ (wrap_at _ _ b s _ (c 3 (by omega) _))))
    (row_at le350 _ _ _ b s d _ (wrap_at _ _ b s _ (c 4 (by omega) _))))
    (row_at (le_refl 8) _ _ _ b s d _ (wrap_at _ _ b s _ (c 5 (by omega) _))))
    (addf_at ((dot7_at _ _ b s d).trans (Finset.sum_congr rfl fun q _ => congrArg (· * _) (boosts_at _ b s q _ (h _)))) (bias_at _ b s d)))
    (addf_at ((dot20_at _ _ b s d).trans (Finset.sum_congr rfl fun q _ => congrArg (· * _) (hf q))) (bias_at _ b s d)))
    (row_at le20 _ _ _ b s d _ (wrap_at _ _ b s _ (c 9 (by omega) _))))
    (row_at le16 _ _ _ b s d _ (wrap_at _ _ b s _ (c 8 (by omega) _))))
    (row_at le32 _ _ _ b s d _ (wrap_at _ _ b s _ (c 6 (by omega) _))))
    (row_at le128 _ _ _ b s d _ (wrap_at _ _ b s _ (c 7 (by omega) _))))
    ((masked_at _ _ b s d _ (c 0 (by omega) _)).trans
      (addf_at ((dot2_at _ _ b s d).trans (Finset.sum_congr rfl fun q _ => congrArg (· * _) (hb q))) (bias_at _ b s d)))) ?_
  rw [spec, sum_ten]
  exact reorder _ _ _ _ _ _ _ _ _ _ _ _ _ _ _ _ _ _

end Cert.ReferenceIdeal.Hand

end
-- ==== Proof.Algebraic.lean ====
module

public import proofs.«01_k».proof.Defs
public import proofs.«01_k».proof.Proof.Result
public import proofs.«01_k».proof.Proof.RefValue
public import proofs.«01_k».proof.Proof.Gen.Pre_edges_drawn
public import proofs.«01_k».proof.Proof.Gen.KernelIdeal
public import proofs.«01_k».proof.Proof.Gen.ReferenceIdeal

/-! The idealized kernel and the idealized reference compute the same, of edges that are all below eight. -/

@[expose] public section

set_option maxRecDepth 16384

noncomputable section

namespace Cert.Hand

open Idealize.ShloMosaic Idealize.ShloMosaic.TcCoe Idealize.SL.Sem

/-- A word that is at least zero and below eight is one of the eight. -/
theorem word_small (x : BitVec 32) (h : IntOp.andi (IntOp.cmpi .sge x 0#32) (IntOp.cmpi .slt x 8#32) = 1#1) :
    ∃ v : Fin 8, x = BitVec.ofNat 32 v.1 := by
  have h' : (0#32).sle x = true ∧ x.slt 8#32 = true := by
    revert h
    show BitVec.ofBool ((0#32).sle x) &&& BitVec.ofBool (x.slt 8#32) = 1#1 → _
    cases (0#32).sle x <;> cases x.slt 8#32 <;> decide
  have h0 : (0#32 : BitVec 32).toInt ≤ x.toInt := BitVec.sle_iff_toInt_le.mp h'.1
  have h8 : x.toInt < (8#32 : BitVec 32).toInt := BitVec.slt_iff_toInt_lt.mp h'.2
  rw [show (0#32 : BitVec 32).toInt = 0 by decide] at h0
  rw [show (8#32 : BitVec 32).toInt = 8 by decide] at h8
  refine ⟨⟨x.toInt.toNat, by omega⟩, BitVec.eq_of_toInt_eq ?_⟩
  rw [Cert.ReferenceIdeal.Hand.word_toInt ⟨x.toInt.toNat, by omega⟩]
  show x.toInt = (x.toInt.toNat : ℤ)
  omega

/-- The precondition, read at an index. -/
theorem edge_small [Cert.Pre_edges_drawn.Facts] (m : (ℓ : Loc Cert.KernelIdeal.nD Cert.KernelIdeal.τ Cert.KernelIdeal.sig) → Buf (Elt Ideal) ℓ)
    (hp : Pre_KernelIdeal_edges_drawn m) (c : Dev Cert.KernelIdeal.nD) (b : Fin 1024) (s : Fin 50) (k : Fin 19) :
    ∃ v : Fin 8, m ((c.tc : Thread Cert.KernelIdeal.nD Cert.KernelIdeal.τ).loc Cert.KernelIdeal.main_arg0) (ix3 b s k) = BitVec.ofNat 32 v.1 :=
  word_small _ (congrFun (hp c) (ix3 b s k))

/-- The two programs' results are equal, of launches that agree on the arguments and whose edges are below eight. -/
theorem results_equal : @algebraic_KernelIdeal_ReferenceIdeal_pre_edges_drawn Cert.KernelIdeal.Gen.facts Cert.ReferenceIdeal.Gen.facts Cert.Pre_edges_drawn.Gen.facts := by
  intro m g m' g' hp ha
  choose E hE using edge_small m hp
  refine ⟨Cert.KernelIdeal.Hand.batchFirst m E, ?_, ?_⟩
  · exact (θ_run _ _ _).mono (fun r h c => ⟨h.1 c, h.2 c⟩)
      (θ_run_and (Cert.KernelIdeal.Hand.run_value m g E hE)
        (Cert.KernelIdeal.Gen.frame_of m g _ (Cert.KernelIdeal.Hand.A_eq m (Cert.KernelIdeal.Hand.left27 m)) (Cert.KernelIdeal.Hand.run_left m g E hE)))
  · refine (θ_run _ _ _).mono (fun r h c => ⟨((h c).1.trans (Cert.ReferenceIdeal.Value.val4_main_v152 _).symm).trans ?_, (h c).2⟩)
      (Cert.ReferenceIdeal.Value.run m' g')
    obtain ⟨a0, a1, a2, a3, a4, a5, a6, a7, a8, a9, a10, a11, a12, a13, a14, a15, a16, a17, a18, a19, a20⟩ := ha c
    funext i
    have hi : i = ix3 (i 0) (i 1) (i 2) := by funext a; match a with | ⟨0, _⟩ => rfl | ⟨1, _⟩ => rfl | ⟨2, _⟩ => rfl
    have hr := Cert.ReferenceIdeal.Hand.ref_at (StableHlo.launchContents m' c) (E c (i 0) (i 1)) (i 0) (i 1)
      (fun k => (congrFun a0 (ix3 (i 0) (i 1) k)).trans (hE c (i 0) (i 1) k)) (i 2)
    dsimp only [StableHlo.launchContents] at hr
    rw [a1, a2, a3, a4, a5, a6, a7, a8, a9, a10, a11, a12, a13, a14, a15, a16, a17, a18, a19, a20] at hr
    rw [hi]
    exact hr

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_edges_drawn
public import proofs.«01_k».proof.Proof.KernelFrame
public import proofs.«01_k».proof.Proof.IdealFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel's frame: it ends with its arguments kept and every counter at zero. -/
theorem frame_Kernel : quiescent_Kernel := by
  intro m g _
  have hr := Cert.Kernel.Hand.run_frame m g (fun _ _ _ => FloatOps.ofBits (F := Bits) .f32 0#32)
  refine (θ_run _ _ _).mono (fun r h => ?_) hr
  exact ⟨fun c => Cert.Kernel.Hand.args_kept h.1 c, h.2⟩

/-- The idealized kernel's frame. -/
theorem frame_KernelIdeal : quiescent_KernelIdeal := by
  intro m g _
  have hr := Cert.KernelIdeal.Hand.run_frame m g (fun _ _ _ => FloatOps.ofBits (F := Ideal) .f32 0#32)
  refine (θ_run _ _ _).mono (fun r h => ?_) hr
  exact ⟨fun c => Cert.KernelIdeal.Hand.args_kept h.1 c, h.2⟩

/-- The idealized kernel's frame, of the launches the precondition admits. -/
theorem frame_KernelIdeal_pre : quiescent_KernelIdeal_pre_edges_drawn := fun m g h => frame_KernelIdeal m g trivial

/-- The reference's frame. -/
theorem frame_ReferenceIdeal : quiescent_ReferenceIdeal := fun m g _ =>
  (θ_run _ _ _).mono (fun _ h => ⟨fun c => (h c).2, sem_eq_zero_of_no_sems (by decide) _⟩) (Cert.ReferenceIdeal.Value.run m g)

/-- The reference's frame, of the launches the precondition admits. -/
theorem frame_ReferenceIdeal_pre : quiescent_ReferenceIdeal_pre_edges_drawn := fun m g _ => frame_ReferenceIdeal m g trivial

/-- The claim. -/
theorem claim : Cert.Claim := ⟨Cert.Kernel.Gen.facts, Cert.KernelIdeal.Gen.facts, Cert.ReferenceIdeal.Gen.facts, Cert.Pre_edges_drawn.Gen.facts,
  frame_Kernel, frame_KernelIdeal, frame_KernelIdeal_pre, frame_ReferenceIdeal, frame_ReferenceIdeal_pre, trivial, Cert.Hand.results_equal⟩

end Cert.Proof

end
